-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_range [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_rows_in_range [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_rows_in_range [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel)
    ∧ quiescent_KernelIdeal (hKernelIdeal := hKernelIdeal)
    ∧ quiescent_KernelIdeal_pre_rows_in_range (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal_pre_rows_in_range (hKernelIdeal := hKernelIdeal) (hReferenceIdeal := hReferenceIdeal) (hPre_rows_in_range := hPre_rows_in_range)
-- ==== Pre_rows_in_range.lean ====
abbrev S1x256x7168 : Shape := ⟨3, ![1, 256, 7168]⟩
abbrev S7168x2x18432 : Shape := ⟨3, ![7168, 2, 18432]⟩
abbrev S2x18432 : Shape := ⟨2, ![2, 18432]⟩
abbrev S2x7168x32 : Shape := ⟨3, ![2, 7168, 32]⟩
abbrev S2x32x18432 : Shape := ⟨3, ![2, 32, 18432]⟩
abbrev S_ : Shape := ⟨0, ![]⟩
abbrev S1x256 : Shape := ⟨2, ![1, 256]⟩

class Facts : Prop where
  bitsLt_bf16_f32 : FTy.bits .bf16 < FTy.bits .f32
  reducesTo_S1x256x7168_S1x256_d2 : S1x256x7168.ReducesTo [2] S1x256
  h_S_ : 0 < S_.numel
  bcast_S_S1x256 : S_.BroadcastsInDim S1x256 (![] : Fin 0 → Fin S1x256.rank)

variable [Facts]

def fn {F : FTy → Type} [FloatOps F] (main_arg0 : FVec F S1x256x7168 .bf16) (main_arg1 : FVec F S7168x2x18432 .fp8e4m3) (main_arg2 : FVec F S2x18432 .f32) (main_arg3 : FVec F S2x7168x32 .bf16) (main_arg4 : FVec F S2x32x18432 .bf16) : IVec S1x256 1 :=
  let main_v0 : FVec F S1x256x7168 .f32 := (extf .f32 · bitsLt_bf16_f32) main_arg0
  let main_v1 : FVec F S1x256x7168 .f32 := Host.absf main_v0
  let main_cst : FVec F S_ .f32 := constant S_ .f32 0xFF800000#32
  let main_v2 : FVec F S1x256 .f32 := (fun x v => Host.reduce FloatOps.maximumf x v reducesTo_S1x256x7168_S1x256_d2 h_S_) main_v1 main_cst
  let main_cst_0 : FVec F S_ .f32 := constant S_ .f32 0x00000000#32
  let main_v3 : FVec F S1x256 .f32 := broadcastInDim S1x256 ![] bcast_S_S1x256 main_cst_0
  let main_v4 : IVec S1x256 1 := cmpf .oeq main_v2 main_v3
  let main_cst_1 : FVec F S_ .f32 := constant S_ .f32 0x3B124925#32
  let main_v5 : FVec F S1x256 .f32 := broadcastInDim S1x256 ![] bcast_S_S1x256 main_cst_1
  let main_v6 : FVec F S1x256 .f32 := mulf main_v2 main_v5
  let main_cst_2 : FVec F S_ .f32 := constant S_ .f32 0x00800000#32
  let main_v7 : FVec F S1x256 .f32 := broadcastInDim S1x256 ![] bcast_S_S1x256 main_cst_2
  let main_v8 : IVec S1x256 1 := cmpf .oge main_v6 main_v7
  let main_cst_3 : FVec F S_ .f32 := constant S_ .f32 0x7F7F0000#32
  let main_v9 : FVec F S1x256 .f32 := broadcastInDim S1x256 ![] bcast_S_S1x256 main_cst_3
  let main_v10 : IVec S1x256 1 := cmpf .ole main_v2 main_v9
  let main_v11 : IVec S1x256 1 := andi main_v8 main_v10
  let main_v12 : IVec S1x256 1 := ori main_v4 main_v11
  main_v12
-- ==== Kernel.lean ====
abbrev S1x256x7168 : Shape := ⟨3, ![1, 256, 7168]⟩
abbrev S7168x2x18432 : Shape := ⟨3, ![7168, 2, 18432]⟩
abbrev S2x18432 : Shape := ⟨2, ![2, 18432]⟩
abbrev S2x7168x32 : Shape := ⟨3, ![2, 7168, 32]⟩
abbrev S2x32x18432 : Shape := ⟨3, ![2, 32, 18432]⟩
abbrev S2x7168x18432 : Shape := ⟨3, ![2, 7168, 18432]⟩
abbrev S2x32x7168 : Shape := ⟨3, ![2, 32, 7168]⟩
abbrev S64x7168 : Shape := ⟨2, ![64, 7168]⟩
abbrev S256x7168 : Shape := ⟨2, ![256, 7168]⟩
abbrev S256x18432 : Shape := ⟨2, ![256, 18432]⟩
abbrev S1x256 : Shape := ⟨2, ![1, 256]⟩
abbrev S2x7168x512 : Shape := ⟨3, ![2, 7168, 512]⟩
abbrev S2x512 : Shape := ⟨2, ![2, 512]⟩
abbrev S2x32x512 : Shape := ⟨3, ![2, 32, 512]⟩
abbrev S256x512 : Shape := ⟨2, ![256, 512]⟩
abbrev S256x128 : Shape := ⟨2, ![256, 128]⟩
abbrev S256x64 : Shape := ⟨2, ![256, 64]⟩
abbrev S256 : Shape := ⟨1, ![256]⟩
abbrev S256x1 : Shape := ⟨2, ![256, 1]⟩
abbrev S128x128 : Shape := ⟨2, ![128, 128]⟩
abbrev S128 : Shape := ⟨1, ![128]⟩
abbrev S1x128 : Shape := ⟨2, ![1, 128]⟩
abbrev S1x7168x512 : Shape := ⟨3, ![1, 7168, 512]⟩
abbrev S7168x512 : Shape := ⟨2, ![7168, 512]⟩
abbrev S256x32 : Shape := ⟨2, ![256, 32]⟩
abbrev S1x32x512 : Shape := ⟨3, ![1, 32, 512]⟩
abbrev S32x512 : Shape := ⟨2, ![32, 512]⟩
abbrev S1x512 : Shape := ⟨2, ![1, 512]⟩

abbrev nBuf : Space → Nat
  | .hbm => 12
  | .vmem => 14
  | .smem => 0
  | _ => 0

abbrev bufTy : (tb : Table) → Fin (tcTables nBuf tb) → BufTy
  | .hbm, ⟨0, _⟩ => ⟨S1x256x7168, .bf16⟩
  | .hbm, ⟨1, _⟩ => ⟨S7168x2x18432, .fp8e4m3⟩
  | .hbm, ⟨2, _⟩ => ⟨S2x18432, .f32⟩
  | .hbm, ⟨3, _⟩ => ⟨S2x7168x32, .bf16⟩
  | .hbm, ⟨4, _⟩ => ⟨S2x32x18432, .bf16⟩
  | .hbm, ⟨5, _⟩ => ⟨S2x7168x18432, .fp8e4m3⟩
  | .hbm, ⟨6, _⟩ => ⟨S2x32x7168, .bf16⟩
  | .hbm, ⟨7, _⟩ => ⟨S64x7168, .bf16⟩
  | .hbm, ⟨8, _⟩ => ⟨S256x7168, .bf16⟩
  | .hbm, ⟨9, _⟩ => ⟨S256x18432, .bf16⟩
  | .hbm, ⟨10, _⟩ => ⟨S256x7168, .fp8e4m3⟩
  | .hbm, ⟨11, _⟩ => ⟨S1x256, .f32⟩
  | .local _ .vmem, ⟨0, _⟩ => ⟨S256x7168, .bf16⟩
  | .local _ .vmem, ⟨1, _⟩ => ⟨S2x7168x512, .fp8e4m3⟩
  | .local _ .vmem, ⟨2, _⟩ => ⟨S2x7168x512, .fp8e4m3⟩
  | .local _ .vmem, ⟨3, _⟩ => ⟨S2x512, .f32⟩
  | .local _ .vmem, ⟨4, _⟩ => ⟨S2x512, .f32⟩
  | .local _ .vmem, ⟨5, _⟩ => ⟨S64x7168, .bf16⟩
  | .local _ .vmem, ⟨6, _⟩ => ⟨S2x32x512, .bf16⟩
  | .local _ .vmem, ⟨7, _⟩ => ⟨S2x32x512, .bf16⟩
  | .local _ .vmem, ⟨8, _⟩ => ⟨S256x512, .bf16⟩
  | .local _ .vmem, ⟨9, _⟩ => ⟨S256x512, .bf16⟩
  | .local _ .vmem, ⟨10, _⟩ => ⟨S256x7168, .fp8e4m3⟩
  | .local _ .vmem, ⟨11, _⟩ => ⟨S1x256, .f32⟩
  | .local _ .vmem, ⟨12, _⟩ => ⟨S256x128, .f32⟩
  | .local _ .vmem, ⟨13, _⟩ => ⟨S256x64, .bf16⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x7168x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x256x7168 : Shape := ⟨3, ![1, 256, 7168]⟩
abbrev S7168x2x18432 : Shape := ⟨3, ![7168, 2, 18432]⟩
abbrev S2x18432 : Shape := ⟨2, ![2, 18432]⟩
abbrev S2x7168x32 : Shape := ⟨3, ![2, 7168, 32]⟩
abbrev S2x32x18432 : Shape := ⟨3, ![2, 32, 18432]⟩
abbrev S256x18432 : Shape := ⟨2, ![256, 18432]⟩
abbrev S256x7168 : Shape := ⟨2, ![256, 7168]⟩
abbrev S1x256 : Shape := ⟨2, ![1, 256]⟩
abbrev S256 : Shape := ⟨1, ![256]⟩
abbrev S256x1 : Shape := ⟨2, ![256, 1]⟩
abbrev S7168x1x18432 : Shape := ⟨3, ![7168, 1, 18432]⟩
abbrev S7168x18432 : Shape := ⟨2, ![7168, 18432]⟩
abbrev S1x18432 : Shape := ⟨2, ![1, 18432]⟩
abbrev S18432 : Shape := ⟨1, ![18432]⟩
abbrev S1x7168x32 : Shape := ⟨3, ![1, 7168, 32]⟩
abbrev S7168x32 : Shape := ⟨2, ![7168, 32]⟩
abbrev S256x32 : Shape := ⟨2, ![256, 32]⟩
abbrev S1x32x18432 : Shape := ⟨3, ![1, 32, 18432]⟩
abbrev S32x18432 : Shape := ⟨2, ![32, 18432]⟩

abbrev nBuf : Space → Nat
  | .hbm => 8
  | .vmem => 8
  | .smem => 0
  | _ => 0

abbrev bufTy : (tb : Table) → Fin (tcTables nBuf tb) → BufTy
  | .hbm, ⟨0, _⟩ => ⟨S1x256x7168, .bf16⟩
  | .hbm, ⟨1, _⟩ => ⟨S7168x2x18432, .fp8e4m3⟩
  | .hbm, ⟨2, _⟩ => ⟨S2x18432, .f32⟩
  | .hbm, ⟨3, _⟩ => ⟨S2x7168x32, .bf16⟩
  | .hbm, ⟨4, _⟩ => ⟨S2x32x18432, .bf16⟩
  | .hbm, ⟨5, _⟩ => ⟨S256x18432, .bf16⟩
  | .hbm, ⟨6, _⟩ => ⟨S256x7168, .fp8e4m3⟩
  | .hbm, ⟨7, _⟩ => ⟨S1x256, .f32⟩
  | .local _ .vmem, ⟨0, _⟩ => ⟨S1x256x7168, .bf16⟩
  | .local _ .vmem, ⟨1, _⟩ => ⟨S7168x2x18432, .fp8e4m3⟩
  | .local _ .vmem, ⟨2, _⟩ => ⟨S2x18432, .f32⟩
  | .local _ .vmem, ⟨3, _⟩ => ⟨S2x7168x32, .bf16⟩
  | .local _ .vmem, ⟨4, _⟩ => ⟨S2x32x18432, .bf16⟩
  | .local _ .vmem, ⟨5, _⟩ => ⟨S256x18432, .bf16⟩
  | .local _ .vmem, ⟨6, _⟩ => ⟨S256x7168, .fp8e4m3⟩
  | .local _ .vmem, ⟨7, _⟩ => ⟨S1x256, .f32⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x2x18432 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x7168x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32x18432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x18432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KRuns.lean ====
/- What the runs of the kernel's body share: the condition of its one branch in closed form, the memrefs it is called
   with, and the values it leaves, as functions of what it loads. -/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an output stored at every point). -/
theorem liveAt0_5 : ∀ t : Fin cfg0.N, cfg0.idle 5 (grid0.coords t) = false := fun _ => rfl
/-! ## The staging memrefs -/

/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x7168x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x7168 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x32x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x128 .f32 := Memref.whole cc0_scratch0
abbrev scM0_1 : Memref sig .tc .vmem S256x64 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body computes, as functions of what it loads -/

/-- The two zero offsets of a whole-array access are the constant zero. -/
theorem hz2 : (![0, 0] : Fin 2 → ℕ) = fun _ => 0 := by funext a; fin_cases a <;> rfl

abbrev rT0 : Rect S256x64 := Rect.unit (s := S256x64) ![0, 0] S256x32.size inb_S256x64_S256x32_0_0
abbrev rT1 : Rect S256x64 := Rect.unit (s := S256x64) ![0, 32] S256x32.size inb_S256x64_S256x32_0_32
abbrev rW0 : Rect S2x7168x512 := Rect.unit (s := S2x7168x512) ![0, 0, 0] S1x7168x512.size inb_S2x7168x512_S1x7168x512_0_0_0
abbrev rW1 : Rect S2x7168x512 := Rect.unit (s := S2x7168x512) ![1, 0, 0] S1x7168x512.size inb_S2x7168x512_S1x7168x512_1_0_0
abbrev rB0 : Rect S2x32x512 := Rect.unit (s := S2x32x512) ![0, 0, 0] S1x32x512.size inb_S2x32x512_S1x32x512_0_0_0
abbrev rB1 : Rect S2x32x512 := Rect.unit (s := S2x32x512) ![1, 0, 0] S1x32x512.size inb_S2x32x512_S1x32x512_1_0_0
abbrev rS0 : Rect S2x512 := Rect.unit (s := S2x512) ![0, 0] S1x512.size inb_S2x512_S1x512_0_0
abbrev rS1 : Rect S2x512 := Rect.unit (s := S2x512) ![1, 0] S1x512.size inb_S2x512_S1x512_1_0
abbrev rL0 : Rect S1x256 := Rect.unit (s := S1x256) ![0, 0] S1x128.size inb_S1x256_S1x128_0_0
abbrev rL1 : Rect S1x256 := Rect.unit (s := S1x256) ![0, 128] S1x128.size inb_S1x256_S1x128_0_128
abbrev rC : Rect S256x7168 := Rect.unit (s := S256x7168) ![0, 0] S256x7168.size inb_S256x7168_S256x7168_0_0
abbrev rX : Rect S256x128 := Rect.unit (s := S256x128) ![0, 0] S256x128.size inb_S256x128_S256x128_0_0
abbrev rT : Rect S256x64 := Rect.unit (s := S256x64) ![0, 0] S256x64.size inb_S256x64_S256x64_0_0
abbrev rA : Rect S64x7168 := Rect.unit (s := S64x7168) ![0, 0] S64x7168.size inb_S64x7168_S64x7168_0_0
abbrev rY : Rect S256x512 := Rect.unit (s := S256x512) ![0, 0] S256x512.size inb_S256x512_S256x512_0_0

/-- The exponent field found for each row after seven of the eight bisection steps. -/
def fieldOf (x : Vec F S256x7168 .bf16) : IVec S256x1 32 := k0_pay5 (k0_pay3 x) (k0_pay4 x) 4294967185#32

/-- The codes the first point writes, from the token block. -/
def codesOf (x : Vec F S256x7168 .bf16) : Vec F S256x7168 .fp8e4m3 :=
  k0_pay7 (k0_pay2 x) (k0_pay3 x) (fieldOf x) 4294967170#32

/-- Each row's scale, repeated over 128 lanes. -/
def lanesOf (x : Vec F S256x7168 .bf16) : Vec F S256x128 .f32 := k0_pay8 (k0_pay3 x) (fieldOf x) 4294967170#32

/-- What the first point keeps of the scales for the later points. -/
def wideOf (x : Vec F S256x7168 .bf16) : Vec F S256x128 .f32 := k0_pay9 (lanesOf x)

/-- The scales as a row: its two halves are written one after the other. -/
def scaleOf (x : Vec F S256x7168 .bf16) : Vec F S1x256 .f32 :=
  View.canon [⟨rL1, k0_pay11 (lanesOf x)⟩, ⟨rL0, k0_pay10 (lanesOf x)⟩]

/-- What the first point keeps of the adapters' inner product. -/
def innerOf (x : Vec F S256x7168 .bf16) (a : Vec F S64x7168 .bf16) : Vec F S256x64 .bf16 := k0_pay12 (k0_pay2 x) a

/-- One tile of the first result, from the codes, the kept scales and inner product, and the tile's blocks. -/
def tileOf (q : Vec F S256x7168 .fp8e4m3) (s : Vec F S256x128 .f32) (u : Vec F S256x64 .bf16)
    (w : Vec F S2x7168x512 .fp8e4m3) (ws : Vec F S2x512 .f32) (b : Vec F S2x32x512 .bf16) : Vec F S256x512 .bf16 :=
  k0_pay1 (k0_pay13 q (View.ld w rW0) (View.ld u rT0) (View.ld b rB0) s (View.ld ws rS0)) (k0_pay14 q (View.ld w rW1))
    (View.ld u rT1) (View.ld b rB1) s (View.ld ws rS1)

/-- The tile with the whole-array loads still written as loads. -/
theorem tile_ld (q : Vec F S256x7168 .fp8e4m3) (s : Vec F S256x128 .f32) (u : Vec F S256x64 .bf16)
    (w : Vec F S2x7168x512 .fp8e4m3) (ws : Vec F S2x512 .f32) (b : Vec F S2x32x512 .bf16) :
    k0_pay1 (k0_pay13 (View.ld q rC) (View.ld w rW0) (View.ld u rT0) (View.ld b rB0) (View.ld s rX) (View.ld ws rS0))
      (k0_pay14 (View.ld q rC) (View.ld w rW1)) (View.ld u rT1) (View.ld b rB1) (View.ld s rX) (View.ld ws rS1) = tileOf q s u w ws b := by
  have hq : View.ld q rC = q := View.ld_unit_zero hz2 _ q
  have hs : View.ld s rX = s := View.ld_unit_zero hz2 _ s
  rw [hq, hs]; rfl

/-- A load of the whole token block is the block. -/
theorem ld_rC (x : Vec F S256x7168 .bf16) : View.ld x rC = x := View.ld_unit_zero hz2 _ x
/-- A load of the whole first adapter is the adapter. -/
theorem ld_rA (x : Vec F S64x7168 .bf16) : View.ld x rA = x := View.ld_unit_zero hz2 _ x

theorem cover_rY (p0 : Vec F S256x512 .bf16) (y : S256x512.Idx) :
    ∃ pc ∈ ([⟨rY, p0⟩] : List (View.Piece (Elt F) S256x512 .bf16)), y ∈ pc.1.set := View.cover_of_tiled [⟨rY, p0⟩] S256x512.size (by rfl) y
theorem cover_rC (p0 : Vec F S256x7168 .fp8e4m3) (y : S256x7168.Idx) :
    ∃ pc ∈ ([⟨rC, p0⟩] : List (View.Piece (Elt F) S256x7168 .fp8e4m3)), y ∈ pc.1.set := View.cover_of_tiled [⟨rC, p0⟩] S256x7168.size (by rfl) y
theorem cover_rX (p0 : Vec F S256x128 .f32) (y : S256x128.Idx) :
    ∃ pc ∈ ([⟨rX, p0⟩] : List (View.Piece (Elt F) S256x128 .f32)), y ∈ pc.1.set := View.cover_of_tiled [⟨rX, p0⟩] S256x128.size (by rfl) y
theorem cover_rT (p0 : Vec F S256x64 .bf16) (y : S256x64.Idx) :
    ∃ pc ∈ ([⟨rT, p0⟩] : List (View.Piece (Elt F) S256x64 .bf16)), y ∈ pc.1.set := View.cover_of_tiled [⟨rT, p0⟩] S256x64.size (by rfl) y
theorem cover_rL (p0 p1 : Vec F S1x128 .f32) (y : S1x256.Idx) :
    ∃ pc ∈ ([⟨rL1, p0⟩, ⟨rL0, p1⟩] : List (View.Piece (Elt F) S1x256 .f32)), y ∈ pc.1.set :=
  View.cover_of_tiled [⟨rL1, p0⟩, ⟨rL0, p1⟩] S1x128.size (by rfl) y

end Cert.KernelIdeal.Run

end
-- ==== Proof.KRunB.lean ====
/- The run of the kernel's body where its branch is not taken (every point but the first), with the values it leaves. -/
module

public import proofs.«01_k».proof.Proof.KRuns

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where its branch is not taken: it reads the codes, the kept scales and the kept inner product, leaves them and
    the row of scales as they were, and writes the tile computed from them. -/
theorem run_B (c : Dev nD) (i : grid0.Coords) (arg1 : Memref sig .tc .vmem S256x7168 .bf16) (harg1 : arg1.IsWhole) (arg2 : Memref sig .tc .vmem S2x7168x512 .fp8e4m3) (harg2 : arg2.IsWhole) (arg3 : Memref sig .tc .vmem S2x512 .f32) (harg3 : arg3.IsWhole) (arg4 : Memref sig .tc .vmem S64x7168 .bf16) (harg4 : arg4.IsWhole) (arg5 : Memref sig .tc .vmem S2x32x512 .bf16) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S1x256 .f32) (harg8 : arg8.IsWhole) (arg9 : Memref sig .tc .vmem S256x128 .f32) (harg9 : arg9.IsWhole) (arg10 : Memref sig .tc .vmem S256x64 .bf16) (harg10 : arg10.IsWhole) (hc0 : ¬cond0_0 i)
    (x0 : Vec F S256x7168 .bf16) (x1 : Vec F S2x7168x512 .fp8e4m3) (x2 : Vec F S2x512 .f32) (x3 : Vec F S64x7168 .bf16) (x4 : Vec F S2x32x512 .bf16)
    (q : Vec F S256x7168 .fp8e4m3) (l : Vec F S1x256 .f32) (s : Vec F S256x128 .f32) (u : Vec F S256x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare q ∗ owns (c : Thread nD τ) arg8 fullShare l ∗ owns (c : Thread nD τ) arg9 fullShare s ∗ owns (c : Thread nD τ) arg10 fullShare u
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tileOf q s u x1 x2 x4) ∗ owns (c : Thread nD τ) arg7 fullShare q ∗ owns (c : Thread nD τ) arg8 fullShare l ∗ owns (c : Thread nD τ) arg9 fullShare s ∗ owns (c : Thread nD τ) arg10 fullShare u) -∗ K ⟨⟩))
      ⊢ wp frame (wpE (defs₀ (F := F)) Variants.none c none) E (cc0_lora_gate_up i arg1 harg1 arg2 harg2 arg3 harg3 arg4 harg4 arg5 harg5 arg6 harg6 arg7 harg7 arg8 harg8 arg9 harg9 arg10 harg10) K := by
  simp only [cc0_lora_gate_up_eq_skeleton]; unfold cc0_lora_gate_up_skel
  simp only [k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (View.read_writes_eq_canon _ _ _ (cover_rY _)).trans ((View.canon_unit_zero hz2 _ _).trans ?_)
    delta run_B.sl.r run_B.sl.r_1 run_B.sl.r_2 run_B.sl.r_3
    simp only [View.readAt_eq_ld, hf0, hf1, hf2, hf3, hf4, hf6, hf7, hfs0, hfs1]
    exact tile_ld q s u x1 x2 x4
  isplitl [H6]
  · iexists _; isplitr; · ipureintro; exact harg7.read_unread _
    iexact H6
  isplitl [H7]
  · iexists _; isplitr; · ipureintro; exact harg8.read_unread _
    iexact H7
  isplitl [HS0]
  · iexists _; isplitr; · ipureintro; exact harg9.read_unread _
    iexact HS0
  iexists _; isplitr; · ipureintro; exact harg10.read_unread _
  iexact HS1

end Cert.KernelIdeal.Run

end
-- ==== Proof.KRunA.lean ====
/- The run of the kernel's body where its branch is taken (the first point), with the values it leaves. -/
module

public import proofs.«01_k».proof.Proof.KRunB

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where its branch is taken: from the inputs' buffers at their contents and the other buffers at anything, it
    leaves the inputs' as they were, the codes, the scales and the two kept values computed from the token block, and the
    tile computed from them. -/
theorem run_A (c : Dev nD) (i : grid0.Coords) (arg1 : Memref sig .tc .vmem S256x7168 .bf16) (harg1 : arg1.IsWhole) (arg2 : Memref sig .tc .vmem S2x7168x512 .fp8e4m3) (harg2 : arg2.IsWhole) (arg3 : Memref sig .tc .vmem S2x512 .f32) (harg3 : arg3.IsWhole) (arg4 : Memref sig .tc .vmem S64x7168 .bf16) (harg4 : arg4.IsWhole) (arg5 : Memref sig .tc .vmem S2x32x512 .bf16) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S1x256 .f32) (harg8 : arg8.IsWhole) (arg9 : Memref sig .tc .vmem S256x128 .f32) (harg9 : arg9.IsWhole) (arg10 : Memref sig .tc .vmem S256x64 .bf16) (harg10 : arg10.IsWhole) (hc0 : cond0_0 i)
    (x0 : Vec F S256x7168 .bf16) (x1 : Vec F S2x7168x512 .fp8e4m3) (x2 : Vec F S2x512 .f32) (x3 : Vec F S64x7168 .bf16) (x4 : Vec F S2x32x512 .bf16)
     (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (tileOf (codesOf x0) (wideOf x0) (innerOf x0 x3) x1 x2 x4) ∗ owns (c : Thread nD τ) arg7 fullShare (codesOf x0) ∗ owns (c : Thread nD τ) arg8 fullShare (scaleOf x0) ∗ owns (c : Thread nD τ) arg9 fullShare (wideOf x0) ∗ owns (c : Thread nD τ) arg10 fullShare (innerOf x0 x3)) -∗ K ⟨⟩))
      ⊢ wp frame (wpE (defs₀ (F := F)) Variants.none c none) E (cc0_lora_gate_up i arg1 harg1 arg2 harg2 arg3 harg3 arg4 harg4 arg5 harg5 arg6 harg6 arg7 harg7 arg8 harg8 arg9 harg9 arg10 harg10) K := by
  simp only [cc0_lora_gate_up_eq_skeleton]; unfold cc0_lora_gate_up_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try delta run_A.sl.H6_1
    try delta run_A.sl.HS0_1
    try delta run_A.sl.HS1_1
    try delta run_A.sl.r_8
    try delta run_A.sl.r_7
    try delta run_A.sl.r_6
    try delta run_A.sl.r_5
    try delta run_A.sl.r_4
    try delta run_A.sl.r_3
    try delta run_A.sl.r_2
    try delta run_A.sl.r_1
    try delta run_A.sl.r
    refine (View.read_writes_eq_canon _ _ _ (cover_rY _)).trans ((View.canon_unit_zero hz2 _ _).trans ?_)
    try delta run_A.sl.H6_1
    try delta run_A.sl.HS0_1
    try delta run_A.sl.HS1_1
    try delta run_A.sl.r_8
    try delta run_A.sl.r_7
    try delta run_A.sl.r_6
    try delta run_A.sl.r_5
    try delta run_A.sl.r_4
    try delta run_A.sl.r_3
    try delta run_A.sl.r_2
    try delta run_A.sl.r_1
    try delta run_A.sl.r
    try simp only [View.readAt_eq_ld, hf0, hf1, hf2, hf3, hf4]
    have h3 : run_A.sl.v3 c arg1 harg1 arg7 x0 = codesOf x0 := by
      delta run_A.sl.v3 run_A.sl.H6_1
      refine (View.readCov_cons_toLoadRect _ rC _ _).trans ?_
      try delta run_A.sl.H6_1
      try delta run_A.sl.HS0_1
      try delta run_A.sl.HS1_1
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      simp only [View.readAt_eq_ld, hf0, hf1, hf2, hf3, hf4]
      exact congrArg codesOf (ld_rC x0)
    have h12 : run_A.sl.v12 c arg1 harg1 arg9 x0 = wideOf x0 := by
      delta run_A.sl.v12 run_A.sl.HS0_1
      refine (View.readCov_cons_toLoadRect _ rX _ _).trans ?_
      try delta run_A.sl.H6_1
      try delta run_A.sl.HS0_1
      try delta run_A.sl.HS1_1
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      simp only [View.readAt_eq_ld, hf0, hf1, hf2, hf3, hf4]
      exact congrArg wideOf (ld_rC x0)
    have h30 : run_A.sl.v30 c arg1 harg1 arg9 x0 = wideOf x0 := by
      delta run_A.sl.v30 run_A.sl.HS0_1
      refine (View.readCov_cons_toLoadRect _ rX _ _).trans ?_
      try delta run_A.sl.H6_1
      try delta run_A.sl.HS0_1
      try delta run_A.sl.HS1_1
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      simp only [View.readAt_eq_ld, hf0, hf1, hf2, hf3, hf4]
      exact congrArg wideOf (ld_rC x0)
    have h8 : run_A.sl.v8 c arg1 harg1 arg4 harg4 arg10 x0 x3 = View.ld (innerOf x0 x3) rT0 := by
      delta run_A.sl.v8 run_A.sl.HS1_1
      refine (View.readCov_eq_canon' _ _ _).trans ?_
      try delta run_A.sl.H6_1
      try delta run_A.sl.HS0_1
      try delta run_A.sl.HS1_1
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      simp only [View.readAt_eq_ld, hf0, hf1, hf2, hf3, hf4]
      exact congrArg (fun X => View.ld X rT0) ((View.canon_unit_zero hz2 _ _).trans (congrArg₂ innerOf (ld_rC x0) (ld_rA x3)))
    have h26 : run_A.sl.v26 c arg1 harg1 arg4 harg4 arg10 x0 x3 = View.ld (innerOf x0 x3) rT1 := by
      delta run_A.sl.v26 run_A.sl.HS1_1
      refine (View.readCov_eq_canon' _ _ _).trans ?_
      try delta run_A.sl.H6_1
      try delta run_A.sl.HS0_1
      try delta run_A.sl.HS1_1
      try delta run_A.sl.r_8
      try delta run_A.sl.r_7
      try delta run_A.sl.r_6
      try delta run_A.sl.r_5
      try delta run_A.sl.r_4
      try delta run_A.sl.r_3
      try delta run_A.sl.r_2
      try delta run_A.sl.r_1
      try delta run_A.sl.r
      simp only [View.readAt_eq_ld, hf0, hf1, hf2, hf3, hf4]
      exact congrArg (fun X => View.ld X rT1) ((View.canon_unit_zero hz2 _ _).trans (congrArg₂ innerOf (ld_rC x0) (ld_rA x3)))
    rw [h3, h8, h12, h26, h30]
    rfl
  isplitl [H6]
  · iexists _; isplitr
    swap; · iexact H6
    ipureintro
    try delta run_A.sl.H6_1
    try delta run_A.sl.HS0_1
    try delta run_A.sl.HS1_1
    try delta run_A.sl.r_8
    try delta run_A.sl.r_7
    try delta run_A.sl.r_6
    try delta run_A.sl.r_5
    try delta run_A.sl.r_4
    try delta run_A.sl.r_3
    try delta run_A.sl.r_2
    try delta run_A.sl.r_1
    try delta run_A.sl.r
    refine (View.read_writes_eq_canon _ _ _ (cover_rC _)).trans ((View.canon_unit_zero hz2 _ _).trans ?_)
    try delta run_A.sl.H6_1
    try delta run_A.sl.HS0_1
    try delta run_A.sl.HS1_1
    try delta run_A.sl.r_8
    try delta run_A.sl.r_7
    try delta run_A.sl.r_6
    try delta run_A.sl.r_5
    try delta run_A.sl.r_4
    try delta run_A.sl.r_3
    try delta run_A.sl.r_2
    try delta run_A.sl.r_1
    try delta run_A.sl.r
    try simp only [View.readAt_eq_ld, hf0, hf1, hf2, hf3, hf4]
    exact congrArg codesOf (ld_rC x0)
  isplitl [H7]
  · iexists _; isplitr
    swap; · iexact H7
    ipureintro
    try delta run_A.sl.H6_1
    try delta run_A.sl.HS0_1
    try delta run_A.sl.HS1_1
    try delta run_A.sl.r_8
    try delta run_A.sl.r_7
    try delta run_A.sl.r_6
    try delta run_A.sl.r_5
    try delta run_A.sl.r_4
    try delta run_A.sl.r_3
    try delta run_A.sl.r_2
    try delta run_A.sl.r_1
    try delta run_A.sl.r
    try simp only [View.readAt_eq_ld, hf0, hf1, hf2, hf3, hf4]
    refine (View.read_writes_eq_canon _ _ _ (cover_rL _ _)).trans ?_
    exact congrArg scaleOf (ld_rC x0)
  isplitl [HS0]
  · iexists _; isplitr
    swap; · iexact HS0
    ipureintro
    try delta run_A.sl.H6_1
    try delta run_A.sl.HS0_1
    try delta run_A.sl.HS1_1
    try delta run_A.sl.r_8
    try delta run_A.sl.r_7
    try delta run_A.sl.r_6
    try delta run_A.sl.r_5
    try delta run_A.sl.r_4
    try delta run_A.sl.r_3
    try delta run_A.sl.r_2
    try delta run_A.sl.r_1
    try delta run_A.sl.r
    refine (View.read_writes_eq_canon _ _ _ (cover_rX _)).trans ((View.canon_unit_zero hz2 _ _).trans ?_)
    try delta run_A.sl.H6_1
    try delta run_A.sl.HS0_1
    try delta run_A.sl.HS1_1
    try delta run_A.sl.r_8
    try delta run_A.sl.r_7
    try delta run_A.sl.r_6
    try delta run_A.sl.r_5
    try delta run_A.sl.r_4
    try delta run_A.sl.r_3
    try delta run_A.sl.r_2
    try delta run_A.sl.r_1
    try delta run_A.sl.r
    try simp only [View.readAt_eq_ld, hf0, hf1, hf2, hf3, hf4]
    exact congrArg wideOf (ld_rC x0)
  iexists _; isplitr
  swap; · iexact HS1
  ipureintro
  try delta run_A.sl.H6_1
  try delta run_A.sl.HS0_1
  try delta run_A.sl.HS1_1
  try delta run_A.sl.r_8
  try delta run_A.sl.r_7
  try delta run_A.sl.r_6
  try delta run_A.sl.r_5
  try delta run_A.sl.r_4
  try delta run_A.sl.r_3
  try delta run_A.sl.r_2
  try delta run_A.sl.r_1
  try delta run_A.sl.r
  refine (View.read_writes_eq_canon _ _ _ (cover_rT _)).trans ((View.canon_unit_zero hz2 _ _).trans ?_)
  try delta run_A.sl.H6_1
  try delta run_A.sl.HS0_1
  try delta run_A.sl.HS1_1
  try delta run_A.sl.r_8
  try delta run_A.sl.r_7
  try delta run_A.sl.r_6
  try delta run_A.sl.r_5
  try delta run_A.sl.r_4
  try delta run_A.sl.r_3
  try delta run_A.sl.r_2
  try delta run_A.sl.r_1
  try delta run_A.sl.r
  try simp only [View.readAt_eq_ld, hf0, hf1, hf2, hf3, hf4]
  exact congrArg₂ innerOf (ld_rC x0) (ld_rA x3)

end Cert.KernelIdeal.Run

end
-- ==== Proof.KFrame.lean ====
/- The kernel's run at any value instance: what every buffer holds point by point, the body obligation, the run and the frame. -/
module

public import proofs.«01_k».proof.Proof.KRunA
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the constant windows hold -/

/-- The first point of the grid. -/
def t0 : Fin cfg0.N := ⟨0, lt_of_lt_of_eq (by decide : 0 < 36) N_0.symm⟩

/-- The token block: the one block of the first window. -/
def xOf (c : Dev nD) : Vec F S256x7168 .bf16 := iblk m c 0 t0
/-- The first adapter: the one block of the fourth window. -/
def aOf (c : Dev nD) : Vec F S64x7168 .bf16 := iblk m c 3 t0

theorem iblk_x (c : Dev nD) (t : Fin cfg0.N) : iblk m c 0 t = xOf m c := rfl
theorem iblk_a (c : Dev nD) (t : Fin cfg0.N) : iblk m c 3 t = aOf m c := rfl

/-- The tile of the first result that point `t` writes. -/
def yOf (c : Dev nD) (t : Fin cfg0.N) : Vec F S256x512 .bf16 :=
  tileOf (codesOf (xOf m c)) (wideOf (xOf m c)) (innerOf (xOf m c) (aOf m c)) (iblk m c 1 t) (iblk m c 2 t) (iblk m c 4 t)

/-! ## The pipeline's proof data -/

/-- What holds before the `n`-th point beside the windows: before the first nothing is known of the two kept buffers, after
    it they hold the scales and the inner product. -/
def PhiS (c : Dev nD) (n : ℕ) : sProp 𝕄 :=
  if n = 0 then Pipeline.ΦA spec0 c else
    iprop(iprop(owns (c : Thread nD τ) scM0_0 fullShare (wideOf (xOf m c)) ∗ owns (c : Thread nD τ) scM0_1 fullShare (innerOf (xOf m c) (aOf m c))) ∗ (∃ r, prngReg c r))

/-- The proof data of the one pipeline: what each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yOf m c t
    | ⟨6, _⟩ => codesOf (xOf m c)
    | ⟨7, _⟩ => scaleOf (xOf m c)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yOf m c t := by dsimp only [dats]
theorem after0_6 (c : Dev nD) (t : Fin cfg0.N) : (dats m 0 c).after 6 t = codesOf (xOf m c) := by dsimp only [dats]
theorem after0_7 (c : Dev nD) (t : Fin cfg0.N) : (dats m 0 c).after 7 t = scaleOf (xOf m c) := by dsimp only [dats]

theorem Phi_castSucc (c : Dev nD) (t : Fin cfg0.N) : (dats m 0 c).Φ t.castSucc = PhiS m c t.val := by
  dsimp only [dats]; exact Dat.Φ_castSucc (fun n _ => PhiS m c n) t
theorem Phi_succ (c : Dev nD) (t : Fin cfg0.N) : (dats m 0 c).Φ t.succ =
    iprop(iprop(owns (c : Thread nD τ) scM0_0 fullShare (wideOf (xOf m c)) ∗ owns (c : Thread nD τ) scM0_1 fullShare (innerOf (xOf m c) (aOf m c))) ∗ (∃ r, prngReg c r)) := by
  dsimp only [dats]; unfold PhiS; rw [if_neg]; rw [Fin.val_succ]; exact Nat.succ_ne_zero _

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Window 6 is idle exactly where the branch is not taken. -/
theorem idleAt0_6 (t : Fin cfg0.N) (h : ¬ t.val % 36 = 0) : cfg0.idle 6 (grid0.coords t) = true := by
  have h1 : ¬ k0_cond1 (grid0.coords t) = 1#1 := fun e => h ((hcond0_0 t).mp e)
  show (!(k0_cond1 (grid0.coords t) == 1#1)) = true
  rw [beq_eq_false_iff_ne.mpr h1]; rfl
theorem liveAt0_6 (t : Fin cfg0.N) (h : t.val % 36 = 0) : cfg0.idle 6 (grid0.coords t) = false := by
  have h1 : k0_cond1 (grid0.coords t) = 1#1 := (hcond0_0 t).mpr h
  show (!(k0_cond1 (grid0.coords t) == 1#1)) = false
  rw [beq_iff_eq.mpr h1]; rfl

/-- After the first point the buffer of window 6 holds what that point left there. -/
theorem before0_6 (c : Dev nD) (n : ℕ) : ∀ (t : Fin cfg0.N), t.val = n + 1 → ∀ d, (dats m 0 c).before 6 t d = codesOf (xOf m c) := by
  induction n with
  | zero =>
    intro t ht d
    have hf : (cfg0.win 6).flush ⟨t.val - 1, Nat.lt_of_le_of_lt (Nat.sub_le _ _) t.isLt⟩ = false := by
      rw [Bool.eq_false_iff]; intro h; have := (flush0_6 _).mp h; simp only at this; omega
    rw [(dats m 0 c).before_of_pos 6 t (by omega) rfl d, hf, if_neg Bool.false_ne_true]
    unfold Dat.left
    rw [liveAt0_6 ⟨t.val - 1, Nat.lt_of_le_of_lt (Nat.sub_le _ _) t.isLt⟩ (by show (t.val - 1) % 36 = 0; rw [ht])]
    exact after0_6 m c ⟨t.val - 1, Nat.lt_of_le_of_lt (Nat.sub_le _ _) t.isLt⟩
  | succ n ih =>
    intro t ht d
    have hN : t.val < 36 := lt_of_lt_of_eq t.isLt (show cfg0.N = 36 from N_0)
    have hf : (cfg0.win 6).flush ⟨t.val - 1, Nat.lt_of_le_of_lt (Nat.sub_le _ _) t.isLt⟩ = false := by
      rw [Bool.eq_false_iff]; intro h; have := (flush0_6 _).mp h; simp only at this; omega
    rw [(dats m 0 c).before_of_pos 6 t (by omega) rfl d, hf, if_neg Bool.false_ne_true]
    unfold Dat.left
    rw [idleAt0_6 ⟨t.val - 1, Nat.lt_of_le_of_lt (Nat.sub_le _ _) t.isLt⟩ (by show ¬ (t.val - 1) % 36 = 0; omega)]
    exact ih ⟨t.val - 1, Nat.lt_of_le_of_lt (Nat.sub_le _ _) t.isLt⟩ (by show t.val - 1 = n + 1; omega) d

/-- Its buffer holding that after a point is what the pipeline asks of it there. -/
theorem leaves0_6 (c : Dev nD) (t : Fin cfg0.N) :
    (owns (c : Thread nD τ) (ms0_6 t) fullShare (codesOf (xOf m c)) : sProp 𝕄) ⊢ (dats m 0 c).leavesExact 6 t := by
  have hN : t.val < 36 := lt_of_lt_of_eq t.isLt (show cfg0.N = 36 from N_0)
  by_cases h0 : t.val % 36 = 0
  · rw [show (dats m 0 c).leavesExact 6 t = owns (c : Thread nD τ) (ms0_6 t) fullShare ((dats m 0 c).after 6 t) from by
      unfold Dat.leavesExact; rw [liveAt0_6 t h0], after0_6]
  · by_cases h1 : t.val % 36 = 35
    · rw [show (dats m 0 c).leavesExact 6 t = owns (c : Thread nD τ) (ms0_6 t) fullShare ((dats m 0 c).after 6 t) from by
        unfold Dat.leavesExact; rw [idleAt0_6 t h0, (flush0_6 t).mpr h1], after0_6]
    · rw [(dats m 0 c).leavesExact_idle 6 t (idleAt0_6 t h0) (by rw [Bool.eq_false_iff]; intro h; exact h1 ((flush0_6 t).mp h))]
      iintro H
      iexists codesOf (xOf m c)
      rw [before0_6 m c (t.val - 1) t (by omega)]
      iexact H

/-- Window 7 is idle exactly where the branch is not taken. -/
theorem idleAt0_7 (t : Fin cfg0.N) (h : ¬ t.val % 36 = 0) : cfg0.idle 7 (grid0.coords t) = true := by
  have h1 : ¬ k0_cond1 (grid0.coords t) = 1#1 := fun e => h ((hcond0_0 t).mp e)
  show (!(k0_cond1 (grid0.coords t) == 1#1)) = true
  rw [beq_eq_false_iff_ne.mpr h1]; rfl
theorem liveAt0_7 (t : Fin cfg0.N) (h : t.val % 36 = 0) : cfg0.idle 7 (grid0.coords t) = false := by
  have h1 : k0_cond1 (grid0.coords t) = 1#1 := (hcond0_0 t).mpr h
  show (!(k0_cond1 (grid0.coords t) == 1#1)) = false
  rw [beq_iff_eq.mpr h1]; rfl

/-- After the first point the buffer of window 7 holds what that point left there. -/
theorem before0_7 (c : Dev nD) (n : ℕ) : ∀ (t : Fin cfg0.N), t.val = n + 1 → ∀ d, (dats m 0 c).before 7 t d = scaleOf (xOf m c) := by
  induction n with
  | zero =>
    intro t ht d
    have hf : (cfg0.win 7).flush ⟨t.val - 1, Nat.lt_of_le_of_lt (Nat.sub_le _ _) t.isLt⟩ = false := by
      rw [Bool.eq_false_iff]; intro h; have := (flush0_7 _).mp h; simp only at this; omega
    rw [(dats m 0 c).before_of_pos 7 t (by omega) rfl d, hf, if_neg Bool.false_ne_true]
    unfold Dat.left
    rw [liveAt0_7 ⟨t.val - 1, Nat.lt_of_le_of_lt (Nat.sub_le _ _) t.isLt⟩ (by show (t.val - 1) % 36 = 0; rw [ht])]
    exact after0_7 m c ⟨t.val - 1, Nat.lt_of_le_of_lt (Nat.sub_le _ _) t.isLt⟩
  | succ n ih =>
    intro t ht d
    have hN : t.val < 36 := lt_of_lt_of_eq t.isLt (show cfg0.N = 36 from N_0)
    have hf : (cfg0.win 7).flush ⟨t.val - 1, Nat.lt_of_le_of_lt (Nat.sub_le _ _) t.isLt⟩ = false := by
      rw [Bool.eq_false_iff]; intro h; have := (flush0_7 _).mp h; simp only at this; omega
    rw [(dats m 0 c).before_of_pos 7 t (by omega) rfl d, hf, if_neg Bool.false_ne_true]
    unfold Dat.left
    rw [idleAt0_7 ⟨t.val - 1, Nat.lt_of_le_of_lt (Nat.sub_le _ _) t.isLt⟩ (by show ¬ (t.val - 1) % 36 = 0; omega)]
    exact ih ⟨t.val - 1, Nat.lt_of_le_of_lt (Nat.sub_le _ _) t.isLt⟩ (by show t.val - 1 = n + 1; omega) d

/-- Its buffer holding that after a point is what the pipeline asks of it there. -/
theorem leaves0_7 (c : Dev nD) (t : Fin cfg0.N) :
    (owns (c : Thread nD τ) (ms0_7 t) fullShare (scaleOf (xOf m c)) : sProp 𝕄) ⊢ (dats m 0 c).leavesExact 7 t := by
  have hN : t.val < 36 := lt_of_lt_of_eq t.isLt (show cfg0.N = 36 from N_0)
  by_cases h0 : t.val % 36 = 0
  · rw [show (dats m 0 c).leavesExact 7 t = owns (c : Thread nD τ) (ms0_7 t) fullShare ((dats m 0 c).after 7 t) from by
      unfold Dat.leavesExact; rw [liveAt0_7 t h0], after0_7]
  · by_cases h1 : t.val % 36 = 35
    · rw [show (dats m 0 c).leavesExact 7 t = owns (c : Thread nD τ) (ms0_7 t) fullShare ((dats m 0 c).after 7 t) from by
        unfold Dat.leavesExact; rw [idleAt0_7 t h0, (flush0_7 t).mpr h1], after0_7]
    · rw [(dats m 0 c).leavesExact_idle 7 t (idleAt0_7 t h0) (by rw [Bool.eq_false_iff]; intro h; exact h1 ((flush0_7 t).mp h))]
      iintro H
      iexists scaleOf (xOf m c)
      rw [before0_7 m c (t.val - 1) t (by omega)]
      iexact H

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: by whether its branch is taken, one of the two runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl, Phi_castSucc, Phi_succ]
  have hN : t.val < 36 := lt_of_lt_of_eq t.isLt (show cfg0.N = 36 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  by_cases h0 : t.val % 36 = 0
  · have ht : t.val = 0 := by omega
    rw [show PhiS m c t.val = Pipeline.ΦA spec0 c from by rw [ht]; exact if_pos rfl, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_A c (grid0.coords t) _ _ _ _ _ _ _ _ _ _ _ _ _ _ _ _ _ _ _ _ ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply leaves0_6 m c t; iexact H6
    iapply leaves0_7 m c t; iexact H7
  · rw [show PhiS m c t.val = iprop(iprop(owns (c : Thread nD τ) scM0_0 fullShare (wideOf (xOf m c)) ∗ owns (c : Thread nD τ) scM0_1 fullShare (innerOf (xOf m c) (aOf m c))) ∗ (∃ r, prngReg c r)) from by unfold PhiS; rw [if_neg]; omega]
    simp only [before0_6 m c (t.val - 1) t (by omega), before0_7 m c (t.val - 1) t (by omega)]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (codesOf (xOf m c)) (scaleOf (xOf m c)) (wideOf (xOf m c)) (innerOf (xOf m c) (aOf m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply leaves0_6 m c t; iexact H6
    iapply leaves0_7 m c t; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem Phi_in (c : Dev nD) : (Pipeline.ΦA spec0 c : sProp 𝕄) ⊢ (dats m 0 c).Φ 0 := by
  rw [show (dats m 0 c).Φ 0 = PhiS m c 0 from rfl, show PhiS m c 0 = Pipeline.ΦA spec0 c from if_pos rfl]

theorem Phi_out (c : Dev nD) : (dats m 0 c).Φ (Fin.last cfg0.N) ⊢ (Pipeline.ΦA spec0 c : sProp 𝕄) := by
  rw [show (dats m 0 c).Φ (Fin.last cfg0.N) = PhiS m c cfg0.N from rfl]
  unfold PhiS
  rw [if_neg (by rw [show cfg0.N = 36 from N_0]; decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- Every fair execution ends with the arrays at what the proof data says, and with every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m) (Q' := _)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Bridge.lean ====
/- The kernel's frame over words: the printed kernel and the program read over the extended reals are the same text, so the run that is
   proved at any value instance is the kernel's run too. -/
module

public import proofs.«01_k».proof.Proof.KFrame
public import proofs.«01_k».proof.Proof.Gen.Kernel.Skeleton
public import proofs.«01_k».proof.Defs

@[expose] public section

set_option maxRecDepth 16384

noncomputable section

namespace Cert.Bridge

open Idealize.ShloMosaic Idealize.ShloMosaic.TcCoe Idealize.SL.Sem

variable [Cert.Kernel.Facts] [Cert.KernelIdeal.Facts]

/-- The two programs run the same body. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_eq : Cert.Kernel.defs (F := Bits) = Cert.KernelIdeal.defs (F := Bits) := congrArg (Pipeline.defs Cert.Kernel.pcfgs) bodies_eq

theorem main_eq : Cert.Kernel.main (F := Bits) = Cert.KernelIdeal.main (F := Bits) := rfl

/-- The frame of the kernel over words. -/
theorem frame : @Cert.quiescent_Kernel Cert.Kernel.Gen.facts := by
  intro m ρ _
  rw [@defs_eq Cert.Kernel.Gen.facts Cert.KernelIdeal.Gen.facts, @main_eq Cert.Kernel.Gen.facts Cert.KernelIdeal.Gen.facts]
  exact Cert.KernelIdeal.Run.frame (F := Bits) m ρ

end Cert.Bridge

end
-- ==== Proof.KArrays.lean ====
/- What the kernel's three result arrays hold after the run, at any value instance. -/
module

public import proofs.«01_k».proof.Proof.KFrame
public import Idealize.ShloMosaic.Lib.Pipeline.Value

@[expose] public section

set_option maxRecDepth 16384

noncomputable section

namespace Cert.KernelIdeal.Run

open Cert.KernelIdeal.Gen
open Idealize.ShloMosaic Idealize.ShloMosaic.TcCoe Idealize.SL.Sem
open Idealize.ShloMosaic.Pipeline (Dat Window)

variable {F : FTy → Type} [FloatOps F]
variable (m : (ℓ : Loc nD τ sig) → Buf (Elt F) ℓ) (ρ : Dev nD → PrngReg)

/-! ## The index maps of the three result windows -/

theorem index5_0 (t : Fin cfg0.N) : win0_5.index t 0 = 0 := rfl
theorem index5_1 (t : Fin cfg0.N) : win0_5.index t 1 = t.val := by
  have h : ∀ n < 36, (BitVec.ofNat 32 (n / 1 % 36)).toNat = n := by decide +kernel
  have hc : (grid0.coords t 0).val = t.val / 1 % 36 := Pipeline.Grid.coords_val t 0 (by decide) rfl
  show (BitVec.ofNat 32 (grid0.coords t 0).val).toNat = t.val
  rw [hc]
  exact h _ (lt_of_lt_of_eq t.isLt N_0)

/-- The grid point whose block holds a column of the 18432-wide result. -/
def colPt (n : Nat) (h : n < 18432) : Fin cfg0.N := ⟨n / 512, lt_of_lt_of_eq (by omega : n / 512 < 36) N_0.symm⟩

/-- The first result whole: column `n` is column `n % 512` of the block of point `n / 512`. -/
def yArr (c : Dev nD) : Vec F S256x18432 .bf16 := fun i =>
  yOf m c (colPt (i 1).val (i 1).isLt) (fun a => match a with
    | ⟨0, _⟩ => ⟨(i 0).val, (i 0).isLt⟩
    | ⟨1, _⟩ => ⟨(i 1).val % 512, Nat.mod_lt _ (by decide)⟩)

theorem flushed5 (c : Dev nD) (t : Fin cfg0.N) :
    (dats m 0 c).flushed 5 t = ((cfg0.win 5).blk t).view.read (Elt F) (yArr m c) := by
  show (cfg0.win 5).cut (grid0.coords t) ((dats m 0 c).after 5 t) = _
  rw [after0_5]
  funext j
  have e0 : ((win0_5.rect t).emb j 0 : Nat) = win0_5.index t 0 * win0_5.size 0 + j 0 := Window.rect_emb_val win0_5 t j 0
  have e1 : ((win0_5.rect t).emb j 1 : Nat) = win0_5.index t 1 * win0_5.size 1 + j 1 := Window.rect_emb_val win0_5 t j 1
  have h1 : (j 1 : Nat) < 512 := (j 1).isLt
  have s1 : win0_5.size 1 = 512 := rfl
  rw [index5_0, Nat.zero_mul, Nat.zero_add] at e0
  rw [index5_1, s1] at e1
  show yOf m c t j = yArr m c ((win0_5.rect t).emb j)
  have hp : colPt ((win0_5.rect t).emb j 1).val ((win0_5.rect t).emb j 1).isLt = t := by
    apply Fin.ext
    show ((win0_5.rect t).emb j 1 : Nat) / 512 = t.val
    omega
  show yOf m c t j = yOf m c (colPt ((win0_5.rect t).emb j 1).val ((win0_5.rect t).emb j 1).isLt) _
  rw [hp]
  congr 1
  funext a
  match a with
  | ⟨0, _⟩ => exact Fin.ext e0.symm
  | ⟨1, _⟩ =>
    apply Fin.ext
    show (j 1 : Nat) = ((win0_5.rect t).emb j 1 : Nat) % 512
    omega

theorem cover5 (i : S256x18432.Idx) :
    ∃ t : Fin cfg0.N, (cfg0.win 5).flush t = true ∧ i ∈ ((cfg0.win 5).blk t).view.set := by
  have h0 : (i 0 : Nat) < 256 := (i 0).isLt
  have h1 : (i 1 : Nat) < 18432 := (i 1).isLt
  refine ⟨colPt (i 1).val h1, flush0_5 _, ?_⟩
  show i ∈ ((View.whole main_v4_0).slice (win0_5.rect (colPt (i 1).val h1))).set
  rw [View.set_slice_whole, Rect.mem_set_unit]
  intro a
  match a with
  | ⟨0, _⟩ =>
    show win0_5.index (colPt (i 1).val h1) 0 * 256 ≤ (i 0 : Nat) ∧ (i 0 : Nat) < win0_5.index (colPt (i 1).val h1) 0 * 256 + 256
    rw [index5_0]; omega
  | ⟨1, _⟩ =>
    show win0_5.index (colPt (i 1).val h1) 1 * 512 ≤ (i 1 : Nat) ∧ (i 1 : Nat) < win0_5.index (colPt (i 1).val h1) 1 * 512 + 512
    rw [index5_1]
    show (i 1 : Nat) / 512 * 512 ≤ (i 1 : Nat) ∧ (i 1 : Nat) < (i 1 : Nat) / 512 * 512 + 512
    omega

theorem final5 (c : Dev nD) : (dats m 0 c).arrAt 5 cfg0.N = yArr m c :=
  (dats m 0 c).arrAt_eq_of_cover 5 (yArr m c) (fun t _ => flushed5 m c t) cover5

/-- The last grid point, the only one whose two row results go back to memory. -/
def tLast : Fin cfg0.N := ⟨35, lt_of_lt_of_eq (by decide : 35 < 36) N_0.symm⟩

theorem flushed6 (c : Dev nD) (t : Fin cfg0.N) :
    (dats m 0 c).flushed 6 t = ((cfg0.win 6).blk t).view.read (Elt F) (codesOf (xOf m c)) := by
  show (cfg0.win 6).cut (grid0.coords t) ((dats m 0 c).after 6 t) = _
  rw [after0_6]
  funext j
  show codesOf (xOf m c) j = codesOf (xOf m c) ((win0_6.rect t).emb j)
  congr 1
  funext a
  match a with
  | ⟨0, _⟩ => exact Fin.ext (Window.rect_emb_val_of_index_zero win0_6 t 0 rfl j).symm
  | ⟨1, _⟩ => exact Fin.ext (Window.rect_emb_val_of_index_zero win0_6 t 1 rfl j).symm

theorem cover6 (i : S256x7168.Idx) :
    ∃ t : Fin cfg0.N, (cfg0.win 6).flush t = true ∧ i ∈ ((cfg0.win 6).blk t).view.set := by
  have h0 : (i 0 : Nat) < 256 := (i 0).isLt
  have h1 : (i 1 : Nat) < 7168 := (i 1).isLt
  refine ⟨tLast, (flush0_6 tLast).mpr rfl, ?_⟩
  show i ∈ ((View.whole main_v4_1).slice (win0_6.rect tLast)).set
  rw [View.set_slice_whole, Rect.mem_set_unit]
  intro a
  match a with
  | ⟨0, _⟩ =>
    show 0 * 256 ≤ (i 0 : Nat) ∧ (i 0 : Nat) < 0 * 256 + 256
    omega
  | ⟨1, _⟩ =>
    show 0 * 7168 ≤ (i 1 : Nat) ∧ (i 1 : Nat) < 0 * 7168 + 7168
    omega

theorem final6 (c : Dev nD) : (dats m 0 c).arrAt 6 cfg0.N = codesOf (xOf m c) :=
  (dats m 0 c).arrAt_eq_of_cover 6 (codesOf (xOf m c)) (fun t _ => flushed6 m c t) cover6

theorem flushed7 (c : Dev nD) (t : Fin cfg0.N) :
    (dats m 0 c).flushed 7 t = ((cfg0.win 7).blk t).view.read (Elt F) (scaleOf (xOf m c)) := by
  show (cfg0.win 7).cut (grid0.coords t) ((dats m 0 c).after 7 t) = _
  rw [after0_7]
  funext j
  show scaleOf (xOf m c) j = scaleOf (xOf m c) ((win0_7.rect t).emb j)
  congr 1
  funext a
  match a with
  | ⟨0, _⟩ => exact Fin.ext (Window.rect_emb_val_of_index_zero win0_7 t 0 rfl j).symm
  | ⟨1, _⟩ => exact Fin.ext (Window.rect_emb_val_of_index_zero win0_7 t 1 rfl j).symm

theorem cover7 (i : S1x256.Idx) :
    ∃ t : Fin cfg0.N, (cfg0.win 7).flush t = true ∧ i ∈ ((cfg0.win 7).blk t).view.set := by
  have h0 : (i 0 : Nat) < 1 := (i 0).isLt
  have h1 : (i 1 : Nat) < 256 := (i 1).isLt
  refine ⟨tLast, (flush0_7 tLast).mpr rfl, ?_⟩
  show i ∈ ((View.whole main_v4_2).slice (win0_7.rect tLast)).set
  rw [View.set_slice_whole, Rect.mem_set_unit]
  intro a
  match a with
  | ⟨0, _⟩ =>
    show 0 * 1 ≤ (i 0 : Nat) ∧ (i 0 : Nat) < 0 * 1 + 1
    omega
  | ⟨1, _⟩ =>
    show 0 * 256 ≤ (i 1 : Nat) ∧ (i 1 : Nat) < 0 * 256 + 256
    omega

theorem final7 (c : Dev nD) : (dats m 0 c).arrAt 7 cfg0.N = scaleOf (xOf m c) :=
  (dats m 0 c).arrAt_eq_of_cover 7 (scaleOf (xOf m c)) (fun t _ => flushed7 m c t) cover7

/-- The run read at its results: the three arrays, and the arguments unchanged. -/
theorem run_values : θ_run defs (onTc (τ := τ) (main (F := F))) ⟨m, fun _ => 0, ρ⟩ (fun r => ∀ c : Dev nD,
      r.2.mem ((c.tc : Thread nD τ).loc main_v4_0) = yArr m c
      ∧ r.2.mem ((c.tc : Thread nD τ).loc main_v4_1) = codesOf (xOf m c)
      ∧ r.2.mem ((c.tc : Thread nD τ).loc main_v4_2) = scaleOf (xOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c), ((h.1 c).1 6).trans (final6 m c),
      ((h.1 c).1 7).trans (final7 m c), h.2 c⟩)
    (θ_run_and (run_main m ρ) (frame_of m ρ (dats m) (A_eq m) (run_main m ρ)))

end Cert.KernelIdeal.Run

end
-- ==== Proof.RArrays.lean ====
/- What the reference's three result arrays hold after the run, at any value instance. -/
module

public import proofs.«01_k».proof.Proof.Gen.ReferenceIdeal.Frame
public import Idealize.ShloMosaic.Lib.Pipeline.Value

@[expose] public section

set_option maxRecDepth 16384

noncomputable section

namespace Cert.ReferenceIdeal.Run

open Cert.ReferenceIdeal.Gen
open Idealize.ShloMosaic Idealize.ShloMosaic.TcCoe Idealize.SL.Sem
open Idealize.ShloMosaic.Pipeline (Dat Window)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

theorem ld_x (x : Vec F S1x256x7168 .bf16) : View.ld x r0_0 = x := View.ld_unit_zero hz3 _ x

/-- The one grid point. -/
def pt0 : Fin cfg0.N := ⟨0, lt_of_lt_of_eq (by decide : 0 < 1) N_0.symm⟩

/-- The first result as a function of the five arguments. -/
def refY (x : Vec F S1x256x7168 .bf16) (w : Vec F S7168x2x18432 .fp8e4m3) (ws : Vec F S2x18432 .f32) (a : Vec F S2x7168x32 .bf16)
    (b : Vec F S2x32x18432 .bf16) : Vec F S256x18432 .bf16 :=
  k0_pay1 (k0_pay8 (k0_pay7 x (View.ld w r0_3)) (View.ld ws r0_4) x (View.ld a r0_5) (View.ld b r0_6))
    (k0_pay9 (k0_pay4 x) (k0_pay5 x) (View.ld w r0_7) (View.ld ws r0_8)) (k0_pay10 x (View.ld a r0_9)) (View.ld b r0_10)

theorem iblk0 (c : Dev nD) (t : Fin cfg0.N) : iblk m c 0 t = m ((c : Thread nD τ).loc main_arg0) := by
  funext j
  show m ((c : Thread nD τ).loc main_arg0) ((win0_0.rect t).emb j) = m ((c : Thread nD τ).loc main_arg0) j
  congr 1
  funext a
  match a with
  | ⟨0, _⟩ => exact Fin.ext (Window.rect_emb_val_of_index_zero win0_0 t 0 rfl j)
  | ⟨1, _⟩ => exact Fin.ext (Window.rect_emb_val_of_index_zero win0_0 t 1 rfl j)
  | ⟨2, _⟩ => exact Fin.ext (Window.rect_emb_val_of_index_zero win0_0 t 2 rfl j)

theorem iblk1 (c : Dev nD) (t : Fin cfg0.N) : iblk m c 1 t = m ((c : Thread nD τ).loc main_arg1) := by
  funext j
  show m ((c : Thread nD τ).loc main_arg1) ((win0_1.rect t).emb j) = m ((c : Thread nD τ).loc main_arg1) j
  congr 1
  funext a
  match a with
  | ⟨0, _⟩ => exact Fin.ext (Window.rect_emb_val_of_index_zero win0_1 t 0 rfl j)
  | ⟨1, _⟩ => exact Fin.ext (Window.rect_emb_val_of_index_zero win0_1 t 1 rfl j)
  | ⟨2, _⟩ => exact Fin.ext (Window.rect_emb_val_of_index_zero win0_1 t 2 rfl j)

theorem iblk2 (c : Dev nD) (t : Fin cfg0.N) : iblk m c 2 t = m ((c : Thread nD τ).loc main_arg2) := by
  funext j
  show m ((c : Thread nD τ).loc main_arg2) ((win0_2.rect t).emb j) = m ((c : Thread nD τ).loc main_arg2) j
  congr 1
  funext a
  match a with
  | ⟨0, _⟩ => exact Fin.ext (Window.rect_emb_val_of_index_zero win0_2 t 0 rfl j)
  | ⟨1, _⟩ => exact Fin.ext (Window.rect_emb_val_of_index_zero win0_2 t 1 rfl j)

theorem iblk3 (c : Dev nD) (t : Fin cfg0.N) : iblk m c 3 t = m ((c : Thread nD τ).loc main_arg3) := by
  funext j
  show m ((c : Thread nD τ).loc main_arg3) ((win0_3.rect t).emb j) = m ((c : Thread nD τ).loc main_arg3) j
  congr 1
  funext a
  match a with
  | ⟨0, _⟩ => exact Fin.ext (Window.rect_emb_val_of_index_zero win0_3 t 0 rfl j)
  | ⟨1, _⟩ => exact Fin.ext (Window.rect_emb_val_of_index_zero win0_3 t 1 rfl j)
  | ⟨2, _⟩ => exact Fin.ext (Window.rect_emb_val_of_index_zero win0_3 t 2 rfl j)

theorem iblk4 (c : Dev nD) (t : Fin cfg0.N) : iblk m c 4 t = m ((c : Thread nD τ).loc main_arg4) := by
  funext j
  show m ((c : Thread nD τ).loc main_arg4) ((win0_4.rect t).emb j) = m ((c : Thread nD τ).loc main_arg4) j
  congr 1
  funext a
  match a with
  | ⟨0, _⟩ => exact Fin.ext (Window.rect_emb_val_of_index_zero win0_4 t 0 rfl j)
  | ⟨1, _⟩ => exact Fin.ext (Window.rect_emb_val_of_index_zero win0_4 t 1 rfl j)
  | ⟨2, _⟩ => exact Fin.ext (Window.rect_emb_val_of_index_zero win0_4 t 2 rfl j)

theorem flushed5 (c : Dev nD) (t : Fin cfg0.N) :
    (dats m 0 c).flushed 5 t = ((cfg0.win 5).blk t).view.read (Elt F) (refY (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 5).cut (grid0.coords t) ((dats m 0 c).after 5 t) = _
  rw [after0_5, iblk0, iblk1, iblk2, iblk3, iblk4]
  unfold out0_5
  rw [View.canon_unit_zero hz2]
  rw [ld_x]
  funext j
  have e : (win0_5.rect t).emb j = j := by
    funext a
    match a with
      | ⟨0, _⟩ => exact Fin.ext (Window.rect_emb_val_of_index_zero win0_5 t 0 rfl j)
      | ⟨1, _⟩ => exact Fin.ext (Window.rect_emb_val_of_index_zero win0_5 t 1 rfl j)
  show _ = (refY (m ((c : Thread nD τ).loc main_arg0)) (m ((c : Thread nD τ).loc main_arg1)) (m ((c : Thread nD τ).loc main_arg2)) (m ((c : Thread nD τ).loc main_arg3)) (m ((c : Thread nD τ).loc main_arg4))) ((win0_5.rect t).emb j)
  rw [e]
  rfl

theorem cover5 (i : S256x18432.Idx) :
    ∃ t : Fin cfg0.N, (cfg0.win 5).flush t = true ∧ i ∈ ((cfg0.win 5).blk t).view.set := by
  have h0 : (i 0 : Nat) < 256 := (i 0).isLt
  have h1 : (i 1 : Nat) < 18432 := (i 1).isLt
  refine ⟨pt0, flush0_5 _, ?_⟩
  show i ∈ ((View.whole main_v0_0).slice (win0_5.rect pt0)).set
  rw [View.set_slice_whole, Rect.mem_set_unit]
  intro a
  match a with
  | ⟨0, _⟩ =>
    show 0 * 256 ≤ (i 0 : Nat) ∧ (i 0 : Nat) < 0 * 256 + 256
    omega
  | ⟨1, _⟩ =>
    show 0 * 18432 ≤ (i 1 : Nat) ∧ (i 1 : Nat) < 0 * 18432 + 18432
    omega

theorem final5 (c : Dev nD) : (dats m 0 c).arrAt 5 cfg0.N = refY (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed5 m c t) cover5

theorem flushed6 (c : Dev nD) (t : Fin cfg0.N) :
    (dats m 0 c).flushed 6 t = ((cfg0.win 6).blk t).view.read (Elt F) (k0_pay5 (m ((c : Thread nD τ).loc main_arg0))) := by
  show (cfg0.win 6).cut (grid0.coords t) ((dats m 0 c).after 6 t) = _
  rw [after0_6, iblk0, iblk1, iblk2, iblk3, iblk4]
  unfold out0_6
  rw [View.canon_unit_zero hz2]
  rw [ld_x]
  funext j
  have e : (win0_6.rect t).emb j = j := by
    funext a
    match a with
      | ⟨0, _⟩ => exact Fin.ext (Window.rect_emb_val_of_index_zero win0_6 t 0 rfl j)
      | ⟨1, _⟩ => exact Fin.ext (Window.rect_emb_val_of_index_zero win0_6 t 1 rfl j)
  show _ = (k0_pay5 (m ((c : Thread nD τ).loc main_arg0))) ((win0_6.rect t).emb j)
  rw [e]

theorem cover6 (i : S256x7168.Idx) :
    ∃ t : Fin cfg0.N, (cfg0.win 6).flush t = true ∧ i ∈ ((cfg0.win 6).blk t).view.set := by
  have h0 : (i 0 : Nat) < 256 := (i 0).isLt
  have h1 : (i 1 : Nat) < 7168 := (i 1).isLt
  refine ⟨pt0, flush0_6 _, ?_⟩
  show i ∈ ((View.whole main_v0_1).slice (win0_6.rect pt0)).set
  rw [View.set_slice_whole, Rect.mem_set_unit]
  intro a
  match a with
  | ⟨0, _⟩ =>
    show 0 * 256 ≤ (i 0 : Nat) ∧ (i 0 : Nat) < 0 * 256 + 256
    omega
  | ⟨1, _⟩ =>
    show 0 * 7168 ≤ (i 1 : Nat) ∧ (i 1 : Nat) < 0 * 7168 + 7168
    omega

theorem final6 (c : Dev nD) : (dats m 0 c).arrAt 6 cfg0.N = k0_pay5 (m ((c : Thread nD τ).loc main_arg0)) :=
  (dats m 0 c).arrAt_eq_of_cover 6 _ (fun t _ => flushed6 m c t) cover6

theorem flushed7 (c : Dev nD) (t : Fin cfg0.N) :
    (dats m 0 c).flushed 7 t = ((cfg0.win 7).blk t).view.read (Elt F) (k0_pay6 (m ((c : Thread nD τ).loc main_arg0))) := by
  show (cfg0.win 7).cut (grid0.coords t) ((dats m 0 c).after 7 t) = _
  rw [after0_7, iblk0, iblk1, iblk2, iblk3, iblk4]
  unfold out0_7
  rw [View.canon_unit_zero hz2]
  rw [ld_x]
  funext j
  have e : (win0_7.rect t).emb j = j := by
    funext a
    match a with
      | ⟨0, _⟩ => exact Fin.ext (Window.rect_emb_val_of_index_zero win0_7 t 0 rfl j)
      | ⟨1, _⟩ => exact Fin.ext (Window.rect_emb_val_of_index_zero win0_7 t 1 rfl j)
  show _ = (k0_pay6 (m ((c : Thread nD τ).loc main_arg0))) ((win0_7.rect t).emb j)
  rw [e]

theorem cover7 (i : S1x256.Idx) :
    ∃ t : Fin cfg0.N, (cfg0.win 7).flush t = true ∧ i ∈ ((cfg0.win 7).blk t).view.set := by
  have h0 : (i 0 : Nat) < 1 := (i 0).isLt
  have h1 : (i 1 : Nat) < 256 := (i 1).isLt
  refine ⟨pt0, flush0_7 _, ?_⟩
  show i ∈ ((View.whole main_v0_2).slice (win0_7.rect pt0)).set
  rw [View.set_slice_whole, Rect.mem_set_unit]
  intro a
  match a with
  | ⟨0, _⟩ =>
    show 0 * 1 ≤ (i 0 : Nat) ∧ (i 0 : Nat) < 0 * 1 + 1
    omega
  | ⟨1, _⟩ =>
    show 0 * 256 ≤ (i 1 : Nat) ∧ (i 1 : Nat) < 0 * 256 + 256
    omega

theorem final7 (c : Dev nD) : (dats m 0 c).arrAt 7 cfg0.N = k0_pay6 (m ((c : Thread nD τ).loc main_arg0)) :=
  (dats m 0 c).arrAt_eq_of_cover 7 _ (fun t _ => flushed7 m c t) cover7

/-- The run read at its results: the three arrays, and the arguments unchanged. -/
theorem run_values : θ_run defs (onTc (τ := τ) (main (F := F))) ⟨m, fun _ => 0, ρ⟩ (fun r => ∀ c : Dev nD,
      r.2.mem ((c.tc : Thread nD τ).loc main_v0_0) = refY (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v0_1) = k0_pay5 (m ((c : Thread nD τ).loc main_arg0))
      ∧ r.2.mem ((c.tc : Thread nD τ).loc main_v0_2) = k0_pay6 (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final5 m c), ((h.1 c).1 6).trans (final6 m c),
      ((h.1 c).1 7).trans (final7 m c), h.2 c⟩)
    (θ_run_and (run_main m ρ) (frame_of m ρ (dats m) (A_eq m) (run_main m ρ)))

end Cert.ReferenceIdeal.Run

end
-- ==== Proof.Exponent.lean ====
/- The exponent of a row's scale: the search by comparisons with powers of two that the kernel makes, and the floor of the base-2
   logarithm that the reference takes, are the same power of two. -/
module

public import Idealize.ShloMosaic.PureOps.Ideal
public import Idealize.ShloMosaic.PureOps.Vector
public import Idealize.ShloMosaic.Lib.IdealHost

@[expose] public section

set_option maxRecDepth 16384

noncomputable section

namespace Cert.Exponent

open Idealize.ShloMosaic

/-- The float whose exponent field is `n` and whose other bits are zero. -/
def word (n : BitVec 32) : EReal := Ideal.ofBits .f32 (IntOp.shli .vector n 23#32)

theorem fields : ∀ n < 256, ((IntOp.shli .vector (BitVec.ofNat 32 n) 23#32).extractLsb' (8 + 23) 1 == 1#1) = false
    ∧ ((IntOp.shli .vector (BitVec.ofNat 32 n) 23#32).extractLsb' 23 8).toNat = n
    ∧ ((IntOp.shli .vector (BitVec.ofNat 32 n) 23#32).extractLsb' 0 23).toNat = 0 := by decide +kernel

/-- An exponent field from 1 to 254 denotes a power of two. -/
theorem word_pow (n : Nat) (h1 : 1 ≤ n) (h2 : n ≤ 254) : word (BitVec.ofNat 32 n) = (((2 : ℝ) ^ ((n : ℤ) - 127) : ℝ) : EReal) := by
  obtain ⟨hs, he, hf⟩ := fields n (by omega)
  unfold word
  generalize IntOp.shli .vector _ 23#32 = x at hs he hf ⊢
  simp only [Ideal.ofBits, Ideal.ieee, hs, he, hf]
  rw [if_neg (by omega), if_neg (by omega)]
  congr 1
  have e : ((2 ^ 23 + 0 : ℕ) : ℝ) = (2 : ℝ) ^ (23 : ℤ) := by norm_num
  simp only [Bool.false_eq_true, if_false, one_mul]
  rw [e, ← zpow_add₀ (by norm_num : (2 : ℝ) ≠ 0)]
  congr 1
  norm_num

/-- The field of all ones denotes the infinity. -/
theorem word_top : word (BitVec.ofNat 32 255) = ⊤ := by
  obtain ⟨hs, he, hf⟩ := fields 255 (by omega)
  unfold word
  generalize IntOp.shli .vector _ 23#32 = x at hs he hf ⊢
  simp only [Ideal.ofBits, Ideal.ieee, hs, he, hf]
  norm_num

/-- One step of the search: add `s` to the field found so far where the value reaches the sum's power of two. -/
def step (v : EReal) (s c b : BitVec 32) : BitVec 32 :=
  Scalar.select (Ideal.cmp .oge v (word (IntOp.addi (IntOp.addi b c) 127#32))) (IntOp.addi b s) b

/-- A step halves the range: the field `E` that was in `[b, b + 2s)` is in `[b', b' + s)`. -/
theorem step_spec (v : EReal) (E : Nat) (H : ∀ n, 1 ≤ n → n ≤ 255 → (word (BitVec.ofNat 32 n) ≤ v ↔ n ≤ E))
    (s : Nat) (c : BitVec 32) (hc : c + 127#32 = BitVec.ofNat 32 s) (hs : 1 ≤ s)
    (b : Nat) (hb : b ≤ E ∧ E < b + 2 * s ∧ b + s ≤ 255) :
    ∃ b', step v (BitVec.ofNat 32 s) c (BitVec.ofNat 32 b) = BitVec.ofNat 32 b' ∧ b' ≤ E ∧ E < b' + s ∧ (b' = b ∨ b' = b + s) := by
  have e : IntOp.addi (IntOp.addi (BitVec.ofNat 32 b) c) 127#32 = BitVec.ofNat 32 (b + s) := by
    show BitVec.ofNat 32 b + c + 127#32 = _
    rw [BitVec.add_assoc, hc, BitVec.ofNat_add]
  have e2 : IntOp.addi (BitVec.ofNat 32 b) (BitVec.ofNat 32 s) = BitVec.ofNat 32 (b + s) := (BitVec.ofNat_add b s).symm
  unfold step
  rw [e, e2]
  have hH := H (b + s) (by omega) hb.2.2
  by_cases h : b + s ≤ E
  · refine ⟨b + s, ?_, h, by omega, Or.inr rfl⟩
    show Scalar.select (BitVec.ofBool (decide (word (BitVec.ofNat 32 (b + s)) ≤ v))) _ _ = _
    rw [decide_eq_true (hH.mpr h)]; rfl
  · refine ⟨b, ?_, hb.1, by omega, Or.inl rfl⟩
    show Scalar.select (BitVec.ofBool (decide (word (BitVec.ofNat 32 (b + s)) ≤ v))) _ _ = _
    rw [decide_eq_false (fun h' => h (hH.mp h'))]; rfl

/-- The search: eight steps, from 128 down to 1. -/
def search (v : EReal) : BitVec 32 :=
  step v 1#32 4294967170#32 (step v 2#32 4294967171#32 (step v 4#32 4294967173#32 (step v 8#32 4294967177#32
    (step v 16#32 4294967185#32 (step v 32#32 4294967201#32 (step v 64#32 4294967233#32 (step v 128#32 1#32 0#32)))))))

/-- It finds the field. -/
theorem search_spec (v : EReal) (E : Nat) (hE : E ≤ 255) (H : ∀ n, 1 ≤ n → n ≤ 255 → (word (BitVec.ofNat 32 n) ≤ v ↔ n ≤ E)) :
    search v = BitVec.ofNat 32 E := by
  obtain ⟨b1, e1, h1⟩ := step_spec v E H 128 1#32 (by decide) (by decide) 0 (by omega)
  obtain ⟨b2, e2, h2⟩ := step_spec v E H 64 4294967233#32 (by decide) (by decide) b1 (by omega)
  obtain ⟨b3, e3, h3⟩ := step_spec v E H 32 4294967201#32 (by decide) (by decide) b2 (by omega)
  obtain ⟨b4, e4, h4⟩ := step_spec v E H 16 4294967185#32 (by decide) (by decide) b3 (by omega)
  obtain ⟨b5, e5, h5⟩ := step_spec v E H 8 4294967177#32 (by decide) (by decide) b4 (by omega)
  obtain ⟨b6, e6, h6⟩ := step_spec v E H 4 4294967173#32 (by decide) (by decide) b5 (by omega)
  obtain ⟨b7, e7, h7⟩ := step_spec v E H 2 4294967171#32 (by decide) (by decide) b6 (by omega)
  obtain ⟨b8, e8, h8⟩ := step_spec v E H 1 4294967170#32 (by decide) (by decide) b7 (by omega)
  have hb : b8 = E := by omega
  unfold search
  rw [show step v 128#32 1#32 0#32 = BitVec.ofNat 32 b1 from e1, show step v 64#32 4294967233#32 _ = _ from e2,
    show step v 32#32 4294967201#32 _ = _ from e3, show step v 16#32 4294967185#32 _ = _ from e4, show step v 8#32 4294967177#32 _ = _ from e5,
    show step v 4#32 4294967173#32 _ = _ from e6, show step v 2#32 4294967171#32 _ = _ from e7, show step v 1#32 4294967170#32 _ = _ from e8, hb]

/-- The kernel's exponent: the field less 126, and 0 at the field 0. -/
def kexp (v : EReal) : BitVec 32 :=
  Scalar.select (IntOp.cmpi .eq (search v) 0#32) 0#32 (IntOp.subi (search v) 126#32)

/-- The kernel's scale and its reciprocal, as words built from the exponent. -/
def kscale (v : EReal) : EReal := word (IntOp.addi (kexp v) 127#32)
def kinv (v : EReal) : EReal := word (IntOp.addi (IntOp.subi 0#32 (kexp v)) 127#32)

/-- The reference's exponent of a row whose largest magnitude is `a` and whose product with 1/448 is `v`. -/
def rexp (a v : EReal) : EReal :=
  Scalar.select (Ideal.cmp .oeq a 0) (0 : EReal) (Ideal.liftRound Int.floor (Ideal.div (Ideal.log v) (Ideal.log (Ideal.ofBits .f32 0x40000000#32))) + 1)

def rscale (a v : EReal) : EReal := Ideal.exp2 (rexp a v)
def rinv (a v : EReal) : EReal := Ideal.exp2 (0 - rexp a v)

theorem two_f32 : Ideal.ofBits .f32 0x40000000#32 = ((2 : ℝ) : EReal) := by
  simp [Ideal.ofBits, Ideal.ieee, -EReal.coe_mul]; norm_num

theorem kexp_field (v : EReal) (E : Nat) (h1 : 1 ≤ E) (h2 : E ≤ 255) (h : search v = BitVec.ofNat 32 E) :
    kexp v = BitVec.ofNat 32 E - 126#32 := by
  unfold kexp
  rw [h]
  have hne : ∀ n < 256, 1 ≤ n → IntOp.cmpi .eq (BitVec.ofNat 32 n) 0#32 = 0#1 := by decide +kernel
  rw [hne E (by omega) h1]
  rfl

/-- At zero both exponents are 0. -/
theorem search_zero : search 0 = 0#32 := by
  refine search_spec 0 0 (by omega) fun n h1 h2 => ?_
  refine ⟨fun h => ?_, fun h => by omega⟩
  rcases Nat.lt_or_ge n 255 with hn | hn
  · rw [word_pow n h1 (by omega)] at h
    have : (0 : ℝ) < (2 : ℝ) ^ ((n : ℤ) - 127) := by positivity
    exact absurd (EReal.coe_le_coe_iff.mp h) (not_le.mpr this)
  · obtain rfl : n = 255 := by omega
    rw [word_top] at h
    exact absurd h (by simp)

/-- A value from 2^-126 below 2^126: the search finds the floor of its base-2 logarithm, plus 127. -/
theorem search_real (r : ℝ) (hlo : (2 : ℝ) ^ (-126 : ℤ) ≤ r) (hhi : r < (2 : ℝ) ^ (126 : ℤ)) :
    ∃ E : Nat, 1 ≤ E ∧ E ≤ 252 ∧ (E : ℤ) = ⌊Real.log r / Real.log 2⌋ + 127 ∧ search (r : EReal) = BitVec.ofNat 32 E := by
  have hpos : 0 < r := lt_of_lt_of_le (by positivity) hlo
  have hle (k : ℤ) : k ≤ ⌊Real.log r / Real.log 2⌋ ↔ (2 : ℝ) ^ k ≤ r := by
    rw [Int.le_floor, le_div_iff₀ (Real.log_pos (by norm_num : (1 : ℝ) < 2)), ← Real.log_zpow, Real.log_le_log_iff (by positivity) hpos]
  have h1 : -126 ≤ ⌊Real.log r / Real.log 2⌋ := (hle _).mpr hlo
  have h2 : ⌊Real.log r / Real.log 2⌋ < 126 := by
    by_contra h
    exact absurd ((hle 126).mp (not_lt.mp h)) (not_le.mpr hhi)
  refine ⟨(⌊Real.log r / Real.log 2⌋ + 127).toNat, by omega, by omega, by omega, ?_⟩
  refine search_spec _ _ (by omega) fun n hn1 hn2 => ?_
  rcases Nat.lt_or_ge n 255 with hn | hn
  · rw [word_pow n hn1 (by omega), EReal.coe_le_coe_iff, ← hle]
    omega
  · obtain rfl : n = 255 := by omega
    rw [word_top]
    refine ⟨fun h => absurd (lt_of_lt_of_le (EReal.coe_lt_top r) h) (lt_irrefl _), fun h => by omega⟩

theorem rexp_real (a : EReal) (ha : a ≠ 0) (r : ℝ) (hpos : 0 < r) : rexp a (r : EReal) = ((((⌊Real.log r / Real.log 2⌋ + 1 : ℤ) : ℝ)) : EReal) := by
  unfold rexp
  have hc : Ideal.cmp .oeq a 0 = 0#1 := by
    show BitVec.ofBool (decide (a = 0)) = _
    rw [decide_eq_false ha]; rfl
  rw [hc, two_f32, Ideal.log_coe, Ideal.log_coe, if_neg (not_le.mpr hpos), if_neg (by norm_num),
    Ideal.div_coe (Real.log_pos (by norm_num : (1 : ℝ) < 2)).ne', ← EReal.coe_mul, Ideal.liftRound_coe]
  show _ + (1 : EReal) = _
  rw [mul_one_div]
  show ((⌊Real.log r / Real.log 2⌋ : ℝ) : EReal) + 1 = _
  rw [← EReal.coe_one, ← EReal.coe_add]
  push_cast
  rfl

/-- The two exponents give one scale and one reciprocal. -/
theorem scale_inv (a v : EReal) (h : (a = 0 ∧ v = 0) ∨ (a ≠ 0 ∧ ∃ r : ℝ, v = r ∧ (2 : ℝ) ^ (-126 : ℤ) ≤ r ∧ r < (2 : ℝ) ^ (126 : ℤ))) :
    kscale v = rscale a v ∧ kinv v = rinv a v := by
  rcases h with ⟨rfl, rfl⟩ | ⟨ha, r, rfl, hlo, hhi⟩
  · have hk : kexp 0 = 0#32 := by unfold kexp; rw [search_zero]; rfl
    have hr : rexp 0 0 = ((0 : ℝ) : EReal) := by
      unfold rexp
      have hc : Ideal.cmp .oeq (0 : EReal) 0 = 1#1 := by
        show BitVec.ofBool (decide ((0 : EReal) = 0)) = _
        rw [decide_eq_true rfl]; rfl
      rw [hc]; rfl
    have hw : word 127#32 = 1 := by
      rw [show (127#32 : BitVec 32) = BitVec.ofNat 32 127 from rfl, word_pow 127 (by omega) (by omega)]; norm_num
    have h2 : Ideal.exp2 ((0 : ℝ) : EReal) = 1 := by
      rw [Ideal.exp2_coe]
      show (((2 : ℝ) ^ (0 : ℝ) : ℝ) : EReal) = 1
      norm_num
    unfold kscale kinv rscale rinv
    rw [hk, hr, h2]
    refine ⟨hw, ?_⟩
    rw [← EReal.coe_zero, ← EReal.coe_sub, sub_zero, h2]
    exact hw
  · have hpos : 0 < r := lt_of_lt_of_le (by positivity) hlo
    obtain ⟨E, h1, h2, hE, hs⟩ := search_real r hlo hhi
    have hk := kexp_field _ E h1 (by omega) hs
    have b1 : ∀ n < 253, 1 ≤ n → IntOp.addi (BitVec.ofNat 32 n - 126#32) 127#32 = BitVec.ofNat 32 (n + 1)
        ∧ IntOp.addi (IntOp.subi 0#32 (BitVec.ofNat 32 n - 126#32)) 127#32 = BitVec.ofNat 32 (253 - n) := by decide +kernel
    obtain ⟨c1, c2⟩ := b1 E (by omega) h1
    unfold kscale kinv rscale rinv
    rw [hk, c1, c2, rexp_real a ha r hpos, word_pow (E + 1) (by omega) (by omega), word_pow (253 - E) (by omega) (by omega)]
    refine ⟨?_, ?_⟩
    · rw [Ideal.exp2_coe]
      show _ = (((2 : ℝ) ^ (((⌊Real.log r / Real.log 2⌋ + 1 : ℤ) : ℝ)) : ℝ) : EReal)
      rw [Real.rpow_intCast]
      congr 2
      omega
    · rw [← EReal.coe_zero, ← EReal.coe_sub, Ideal.exp2_coe]
      show _ = (((2 : ℝ) ^ (0 - ((⌊Real.log r / Real.log 2⌋ + 1 : ℤ) : ℝ)) : ℝ) : EReal)
      rw [zero_sub, ← Int.cast_neg, Real.rpow_intCast]
      congr 2
      omega

end Cert.Exponent

end
-- ==== Proof.Row.lean ====
/- A row's quantiser over the extended reals: the largest magnitude, what the exponent is taken of, and a value's code. -/
module

public import proofs.«01_k».proof.Proof.Exponent

@[expose] public section

noncomputable section

namespace Cert.Exponent

open Idealize.ShloMosaic

/-- The largest magnitude of a row. -/
def rowMax (x : Fin 7168 → EReal) : EReal := (Finset.univ : Finset (Fin 7168)).fold max ⊥ (fun k => max (x k) (-(x k)))

/-- The row's largest magnitude times the printed 1/448. -/
def rowV (x : Fin 7168 → EReal) : EReal := rowMax x * Ideal.ofBits .f32 0x3B124925#32

/-- A value times the row's reciprocal scale, clipped to ±448. -/
def code (x inv : EReal) : EReal := min (Ideal.ofBits .f32 0x43E00000#32) (max (Ideal.ofBits .f32 0xC3E00000#32) (x * inv))

theorem bot_bf16 : Ideal.ofBits .bf16 0xFF80#16 = ⊥ := by simp [Ideal.ofBits, Ideal.ieee]
theorem bot_f32 : Ideal.ofBits .f32 0xFF800000#32 = ⊥ := by simp [Ideal.ofBits, Ideal.ieee]

end Cert.Exponent

end
-- ==== Proof.KRow.lean ====
/- What the kernel computes of the activations, entry by entry, over the extended reals: each row's quantised values and its scale. -/
module

public import proofs.«01_k».proof.Proof.KRuns
public import proofs.«01_k».proof.Proof.Row
public import Idealize.ShloMosaic.PureOps.Ideal.Laws
public import Idealize.ShloMosaic.Lib.ValueIdxCore
public import Idealize.ShloMosaic.Lib.MatmulPlain
public import Idealize.ShloMosaic.Lib.Pipeline.Value
public import Idealize.ShloMosaic.Lib.Pointwise.ElementwiseCore

@[expose] public section

set_option maxRecDepth 16384

noncomputable section

namespace Cert.KernelIdeal.Run

open Cert.KernelIdeal.Gen Cert.Exponent
open Idealize.ShloMosaic Idealize.ShloMosaic.ValueIdx

/-- Row `r` of a matrix of 7168 columns. -/
def row {n : Nat} (x : (⟨2, ![n, 7168]⟩ : Shape).Idx → EReal) (r : Fin n) : Fin 7168 → EReal := fun k => x (ix2 r k)

/-- A row's largest magnitude, as the kernel reduces it. -/
theorem rowMax_apply (x : FVec Ideal S256x7168 .bf16) (r : Fin 256) :
    shapeCast S256x1 (multiReduction .maximumf [1] S256 (absf x) 0xFF80#16 reduces_S256x7168_S256 (.inr rfl) rfl) shapeCasts_S256_S256x1 (ix2 r 0)
      = rowMax (row x r) := by
  rw [shapeCast_apply _ _ _ (ix1 r) (by rw [Shape.rowMajor_val_one, Shape.rowMajor_val_two]; show r.val = r.val * 1 + 0; omega)]
  refine (Ideal.multiReduction_maximumf_single _ _ _ _ _ _).trans ?_
  unfold rowMax
  rw [Ideal.ofBits_def, bot_bf16]
  congr 1
  funext k
  have e : reduces_S256x7168_S256.lift (ix1 r) k = ix2 r k := by
    funext a
    match a with
    | ⟨0, _⟩ => rfl
    | ⟨1, _⟩ => rfl
  show absf x (reduces_S256x7168_S256.lift (ix1 r) k) = _
  rw [e]
  rfl

theorem times_apply (u : FVec Ideal S256x1 .bf16) (i : S256x1.Idx) :
    mulf (extf .f32 u bitsLt_bf16_f32) (broadcast S256x1 (Scalar.ofBits (F := Ideal) .f32 0x3B124925#32)) i = u i * Ideal.ofBits .f32 0x3B124925#32 := by
  rw [mulf_apply, extf_apply, broadcast_apply]
  rfl

/-- The value the exponent is taken of. -/
theorem pay3_apply (x : Vec Ideal S256x7168 .bf16) (r : Fin 256) : k0_pay3 (F := Ideal) x (ix2 r 0) = rowV (row x r) := by
  unfold k0_pay3 k0_pay2
  rw [shapeCast_self]
  refine (times_apply _ _).trans ?_
  unfold rowV
  exact congrArg (· * Ideal.ofBits .f32 0x3B124925#32) (rowMax_apply x r)

/-- A column broadcast along the row reads its row. -/
theorem bcast_row {α : Type} {n : Nat} (w : S256x1.Idx → α) (h : S256x1.Broadcasts ⟨2, ![256, n]⟩) (r : Fin 256) (k : Fin n) :
    broadcastTo ⟨2, ![256, n]⟩ w h (ix2 r k) = w (ix2 r 0) :=
  broadcastTo_apply _ _ _ (ix2 r 0) (fun a => match a with | ⟨0, _⟩ => rfl | ⟨1, _⟩ => rfl)

/-- One printed step of the search at an index. -/
theorem step_apply (v : FVec Ideal S256x1 .f32) (b : IVec S256x1 32) (s c : BitVec 32) (i : S256x1.Idx) :
    select (cmpf .oge v (bitcastToFloat .f32 (shli (addi (addi b (broadcast S256x1 c)) (broadcast S256x1 127#32)) (broadcast S256x1 23#32))))
      (addi b (broadcast S256x1 s)) b i = step (v i) s c (b i) := rfl

/-- The last step with the exponent read off, the four before it, and the first three. -/
theorem pay6_step (v : FVec Ideal S256x1 .f32) (b : IVec S256x1 32) (i : S256x1.Idx) : k0_pay6 (F := Ideal) v b 4294967170#32 i
    = Scalar.select (IntOp.cmpi .eq (step (v i) 1#32 4294967170#32 (b i)) 0#32) 0#32
        (IntOp.subi (step (v i) 1#32 4294967170#32 (b i)) 126#32) := by
  rw [← step_apply]
  rfl

theorem pay5_steps (v : FVec Ideal S256x1 .f32) (b : IVec S256x1 32) (i : S256x1.Idx) : k0_pay5 (F := Ideal) v b 4294967185#32 i
    = step (v i) 2#32 4294967171#32 (step (v i) 4#32 4294967173#32 (step (v i) 8#32 4294967177#32 (step (v i) 16#32 4294967185#32 (b i)))) := by
  rw [← step_apply, ← step_apply, ← step_apply, ← step_apply]
  rfl

theorem pay4_steps (x : Vec Ideal S256x7168 .bf16) (i : S256x1.Idx) : k0_pay4 (F := Ideal) x i
    = step (k0_pay3 (F := Ideal) x i) 32#32 4294967201#32 (step (k0_pay3 (F := Ideal) x i) 64#32 4294967233#32
        (step (k0_pay3 (F := Ideal) x i) 128#32 1#32 0#32)) := by
  unfold k0_pay4
  generalize k0_pay3 (F := Ideal) x = v
  rw [show (step (v i) 128#32 1#32 0#32) = step (v i) 128#32 1#32 ((broadcast S256x1 0#32 : IVec S256x1 32) i) from rfl, ← step_apply, ← step_apply, ← step_apply]

/-- The exponent, at any row index, is the search's. -/
theorem pay6_apply (x : Vec Ideal S256x7168 .bf16) (i : S256x1.Idx) :
    k0_pay6 (F := Ideal) (k0_pay3 x) (fieldOf x) 4294967170#32 i = kexp (k0_pay3 (F := Ideal) x i) := by
  unfold fieldOf
  rw [pay6_step, pay5_steps, pay4_steps]
  unfold kexp search
  rfl

/-- The product with the reciprocal, clipped on both sides, at an index. -/
theorem clip_apply (x w : FVec Ideal S256x7168 .bf16) (i : S256x7168.Idx) :
    (truncf .fp8e4m3 (minimumf (broadcast S256x7168 (Scalar.truncf .bf16 bitsLt_bf16_f32 (Scalar.ofBits .f32 0x43E00000#32)))
      (maximumf (broadcast S256x7168 (Scalar.truncf .bf16 bitsLt_bf16_f32 (Scalar.ofBits .f32 0xC3E00000#32))) (mulf x w)))
      bitsLt_fp8e4m3_bf16 : FVec Ideal S256x7168 .fp8e4m3) i = code (x i) (w i) := by
  rw [truncf_apply, minimumf_apply, maximumf_apply, mulf_apply, broadcast_apply, broadcast_apply]
  unfold code
  exact congrArg₂ min rfl (congrArg₂ max rfl rfl)

/-- The quantised values. -/
theorem codesOf_apply (x : Vec Ideal S256x7168 .bf16) (r : Fin 256) (k : Fin 7168) :
    codesOf (F := Ideal) x (ix2 r k) = code (x (ix2 r k)) (kinv (rowV (row x r))) := by
  unfold codesOf k0_pay7
  have h := pay6_apply x (ix2 r 0)
  rw [pay3_apply] at h
  generalize k0_pay6 (F := Ideal) (k0_pay3 x) (fieldOf x) 4294967170#32 = e at h
  unfold k0_pay2
  rw [shapeCast_self]
  refine (clip_apply _ _ _).trans (congrArg (code (x (ix2 r k))) ((bcast_row _ _ r k).trans ?_))
  unfold kinv
  rw [← h]
  rfl

/-- The scale along the lanes. -/
theorem lanesOf_apply (x : Vec Ideal S256x7168 .bf16) (r : Fin 256) (l : Fin 128) :
    lanesOf (F := Ideal) x (ix2 r l) = kscale (rowV (row x r)) := by
  unfold lanesOf k0_pay8
  have h := pay6_apply x (ix2 r 0)
  rw [pay3_apply] at h
  generalize k0_pay6 (F := Ideal) (k0_pay3 x) (fieldOf x) 4294967170#32 = e at h
  rw [shapeCast_self]
  rw [broadcastTo_apply _ _ _ (ix2 r 0) (fun a => match a with | ⟨0, _⟩ => rfl | ⟨1, _⟩ => rfl)]
  unfold kscale
  rw [← h]
  rfl

theorem wideOf_apply (x : Vec Ideal S256x7168 .bf16) (r : Fin 256) (l : Fin 128) :
    wideOf (F := Ideal) x (ix2 r l) = kscale (rowV (row x r)) := by
  unfold wideOf k0_pay9
  rw [shapeCast_self, lanesOf_apply]

theorem eq_mask : ∀ a < 128, ∀ b < 128, IntOp.cmpi .eq (BitVec.ofNat 32 a) (BitVec.ofNat 32 b) = BitVec.ofBool (decide (a = b)) := by
  decide +kernel

/-- The sum down a 128-square's columns of the diagonal alone is the diagonal. -/
theorem diag_sum (f : Fin 128 → EReal) (l : Fin 128) :
    ∑ k : Fin 128, Scalar.select (IntOp.cmpi .eq (BitVec.ofNat 32 k.val) (BitVec.ofNat 32 l.val)) (f k) (0 : EReal) = f l := by
  rw [Finset.sum_eq_single l]
  · rw [eq_mask _ l.isLt _ l.isLt, decide_eq_true rfl]; rfl
  · intro k _ hk
    rw [eq_mask _ k.isLt _ l.isLt, decide_eq_false (fun h => hk (Fin.ext h))]; rfl
  · intro h; exact absurd (Finset.mem_univ l) h

/-- The masked square at an index. -/
theorem mask_apply (w : FVec Ideal S128x128 .f32) (k l : Fin 128) :
    select (cmpi .eq (iota .tc S128x128 32 [0] iota_S128x128_d0_w32) (iota .tc S128x128 32 [1] iota_S128x128_d1_w32)) w
      (broadcast S128x128 (Scalar.ofBits (F := Ideal) .f32 0x00000000#32)) (ix2 k l)
    = Scalar.select (IntOp.cmpi .eq (BitVec.ofNat 32 k.val) (BitVec.ofNat 32 l.val)) (w (ix2 k l)) (0 : EReal) := by
  have i0 : iota .tc S128x128 32 [0] iota_S128x128_d0_w32 (ix2 k l) = BitVec.ofNat 32 k.val := iota_single_apply .tc S128x128 32 0 _ _
  have i1 : iota .tc S128x128 32 [1] iota_S128x128_d1_w32 (ix2 k l) = BitVec.ofNat 32 l.val := iota_single_apply .tc S128x128 32 1 _ _
  have z : broadcast S128x128 (Scalar.ofBits (F := Ideal) .f32 0x00000000#32) (ix2 k l) = (0 : EReal) := Ideal.ofBits_zero_f32
  rw [← i0, ← i1, ← z]
  rfl

theorem pay10_apply (v : FVec Ideal S256x128 .f32) (l : Fin 128) :
    k0_pay10 (F := Ideal) v (ix2 0 l) = v (ix2 ⟨l.val, by omega⟩ l) := by
  unfold k0_pay10
  rw [shapeCast_apply _ _ _ (ix1 l) (by rw [Shape.rowMajor_val_one, Shape.rowMajor_val_two]; show l.val = 0 * 128 + l.val; omega)]
  refine (Ideal.multiReduction_add_single _ _ _ _ _ _).trans ?_
  refine Eq.trans (Finset.sum_congr rfl fun (k : Fin 128) _ => ?_) (diag_sum (fun k => v (ix2 ⟨k.val, by omega⟩ l)) l)
  have e : reduces_S128x128_S128.lift (ix1 l) k = ix2 k l := by
    funext a
    match a with
    | ⟨0, _⟩ => rfl
    | ⟨1, _⟩ => rfl
  refine (congrArg _ e).trans ((mask_apply _ k l).trans ?_)
  rw [extractStridedSlice_apply _ _ _ _ (ix2 ⟨k.val, by omega⟩ l) (fun a => match a with | ⟨0, _⟩ => (Nat.zero_add _).symm | ⟨1, _⟩ => (Nat.zero_add _).symm)]

theorem pay11_apply (v : FVec Ideal S256x128 .f32) (l : Fin 128) :
    k0_pay11 (F := Ideal) v (ix2 0 l) = v (ix2 ⟨128 + l.val, by omega⟩ l) := by
  unfold k0_pay11
  rw [shapeCast_apply _ _ _ (ix1 l) (by rw [Shape.rowMajor_val_one, Shape.rowMajor_val_two]; show l.val = 0 * 128 + l.val; omega)]
  refine (Ideal.multiReduction_add_single _ _ _ _ _ _).trans ?_
  refine Eq.trans (Finset.sum_congr rfl fun (k : Fin 128) _ => ?_) (diag_sum (fun k => v (ix2 ⟨128 + k.val, by omega⟩ l)) l)
  have e : reduces_S128x128_S128.lift (ix1 l) k = ix2 k l := by
    funext a
    match a with
    | ⟨0, _⟩ => rfl
    | ⟨1, _⟩ => rfl
  refine (congrArg _ e).trans ((mask_apply _ k l).trans ?_)
  rw [extractStridedSlice_apply _ _ _ _ (ix2 ⟨128 + k.val, by omega⟩ l) (fun a => match a with | ⟨0, _⟩ => rfl | ⟨1, _⟩ => (Nat.zero_add _).symm)]

theorem rL1_emb (l : Fin 128) : rL1.emb (ix2 0 l) = (ix2 0 ⟨128 + l.val, by omega⟩ : S1x256.Idx) := by
  funext a
  apply Fin.ext
  match a with
  | ⟨0, _⟩ => rfl
  | ⟨1, _⟩ => exact congrArg (128 + ·) (Nat.one_mul l.val)

theorem rL0_emb (l : Fin 128) : rL0.emb (ix2 0 l) = (ix2 0 ⟨l.val, by omega⟩ : S1x256.Idx) := by
  funext a
  apply Fin.ext
  match a with
  | ⟨0, _⟩ => rfl
  | ⟨1, _⟩ => exact (congrArg (0 + ·) (Nat.one_mul l.val)).trans (Nat.zero_add l.val)

/-- The scale result, row by row. -/
theorem scaleOf_apply (x : Vec Ideal S256x7168 .bf16) (i : S1x256.Idx) :
    scaleOf (F := Ideal) x i = kscale (rowV (row x (i 1))) := by
  unfold scaleOf
  refine View.canon_apply_of_pieces (Val := Elt Ideal) (e := .f32) (fun i : S1x256.Idx => kscale (rowV (row x (i 1)))) _ ?_ i (cover_rL _ _ i)
  intro p hp j
  simp only [List.mem_cons, List.not_mem_nil, or_false] at hp
  rcases hp with rfl | rfl
  · obtain ⟨l, rfl⟩ : ∃ (l : Fin 128), j = ix2 0 l := ⟨j 1, by funext a; match a with | ⟨0, _⟩ => exact Subsingleton.elim (α := Fin 1) _ _ | ⟨1, _⟩ => rfl⟩
    have e := rL1_emb l
    have h := (pay11_apply (lanesOf x) l).trans (lanesOf_apply x _ _)
    generalize k0_pay11 (F := Ideal) (lanesOf x) = w at h ⊢
    dsimp only
    rw [e]
    exact h
  · obtain ⟨l, rfl⟩ : ∃ (l : Fin 128), j = ix2 0 l := ⟨j 1, by funext a; match a with | ⟨0, _⟩ => exact Subsingleton.elim (α := Fin 1) _ _ | ⟨1, _⟩ => rfl⟩
    have e := rL0_emb l
    have h := (pay10_apply (lanesOf x) l).trans (lanesOf_apply x _ _)
    generalize k0_pay10 (F := Ideal) (lanesOf x) = w at h ⊢
    dsimp only
    rw [e]
    exact h

end Cert.KernelIdeal.Run

end
-- ==== Proof.Products.lean ====
/- The layer's arithmetic at one output entry, and how a plain product and the element-wise steps read at an index, over the extended reals. -/
module

public import Idealize.ShloMosaic.PureOps.Ideal.Laws
public import Idealize.ShloMosaic.Lib.ValueIdxCore
public import Idealize.ShloMosaic.Lib.MatmulPlain
public import Idealize.ShloMosaic.Lib.IdealHost
public import Idealize.ShloMosaic.Lib.Pipeline.Value
public import Idealize.ShloMosaic.Lib.Pointwise.ElementwiseCore

@[expose] public section

set_option maxRecDepth 16384

noncomputable section

namespace Cert.Layer

open Idealize.ShloMosaic Idealize.ShloMosaic.ValueIdx
open scoped BigOperators

/-- One half's value before the activation: the quantised product times both scales, plus twice the adapter's product. -/
def pre (q w : Fin 7168 → EReal) (s ws : EReal) (t b : Fin 32 → EReal) : EReal :=
  (∑ k, q k * w k) * s * ws + Ideal.ofBits .f32 0x40000000#32 * ∑ i, t i * b i

/-- The gate times its logistic, times the other half. -/
def glu (g u : EReal) : EReal := g * Ideal.logistic g * u

/-- A plain product onto zero, at an index. -/
theorem plain_apply {M K N : ℕ} {φ₁ φ₂ : FTy} (lhs : FVec Ideal ⟨2, ![M, K]⟩ φ₁) (rhs : FVec Ideal ⟨2, ![K, N]⟩ φ₂) (r : Fin M) (c : Fin N) :
    matmul (F := Ideal) (DotDims.plain M K N) none lhs rhs (constant ⟨2, ![M, N]⟩ .f32 0x00000000#32) (ix2 r c)
      = ∑ k : Fin K, lhs (ix2 r k) * rhs (ix2 k c) := by
  refine (Ideal.matmul_plain_apply none lhs rhs _ r c).trans ?_
  rw [show constant (F := Ideal) ⟨2, ![M, N]⟩ .f32 0x00000000#32 (ix2 r c) = 0 from Ideal.ofBits_zero_f32, zero_add]

/-- A product with the right factor transposed, onto zero, at an index. -/
theorem transposed_apply {M K N : ℕ} {φ₁ φ₂ : FTy} (lhs : FVec Ideal ⟨2, ![M, K]⟩ φ₁) (rhs : FVec Ideal ⟨2, ![N, K]⟩ φ₂) (r : Fin M) (c : Fin N) :
    matmul (F := Ideal) (DotDims.transposedRhs M K N) none lhs rhs (constant ⟨2, ![M, N]⟩ .f32 0x00000000#32) (ix2 r c)
      = ∑ k : Fin K, lhs (ix2 r k) * rhs (ix2 c k) := by
  refine (Ideal.matmul_transposedRhs_apply none lhs rhs _ r c).trans ?_
  rw [show constant (F := Ideal) ⟨2, ![M, N]⟩ .f32 0x00000000#32 (ix2 r c) = 0 from Ideal.ofBits_zero_f32, zero_add]

/-- The scaled sum of the two products, at an index. -/
theorem scaled_apply {s : Shape} (d a b p : FVec Ideal s .f32) (i : s.Idx) :
    addf (mulf (mulf d a) b) (mulf (broadcast s (Scalar.ofBits (F := Ideal) .f32 0x40000000#32)) p) i
      = d i * a i * b i + Ideal.ofBits .f32 0x40000000#32 * p i := by
  rw [addf_apply, mulf_apply, mulf_apply, mulf_apply, broadcast_apply]
  rfl

/-- The activation and the final product, at an index. -/
theorem gated_apply {s : Shape} (g u : FVec Ideal s .f32) (h : FTy.bits .bf16 < FTy.bits .f32) (i : s.Idx) :
    truncf .bf16 (mulf (mulf g (logistic g)) u) h i = glu (g i) (u i) := by
  rw [truncf_apply, mulf_apply, mulf_apply, logistic_apply]
  rfl

end Cert.Layer

end
-- ==== Proof.KTile.lean ====
/- What one grid point of the kernel computes of its blocks, entry by entry, over the extended reals. -/
module

public import proofs.«01_k».proof.Proof.KRow
public import proofs.«01_k».proof.Proof.Products

@[expose] public section

set_option maxRecDepth 16384

noncomputable section

namespace Cert.KernelIdeal.Run

open Cert.KernelIdeal.Gen Cert.Exponent Cert.Layer
open Idealize.ShloMosaic Idealize.ShloMosaic.ValueIdx
open scoped BigOperators

/-! ## The three products' dimension numbers -/

theorem dot_codes : dot_S256x7168_S7168x512_S256x512_1_0_0_1_n_n = DotDims.plain 256 7168 512 := rfl
theorem dot_adapter : dot_S256x32_S32x512_S256x512_1_0_0_1_n_n = DotDims.plain 256 32 512 := rfl
theorem dot_inner : dot_S256x7168_S64x7168_S256x64_1_1_0_0_n_n = DotDims.transposedRhs 256 7168 64 := rfl

/-- The adapter's inner product: row `r` of the tokens against row `j` of the stacked, transposed adapter. -/
theorem innerOf_apply (x : Vec Ideal S256x7168 .bf16) (a : Vec Ideal S64x7168 .bf16) (r : Fin 256) (j : Fin 64) :
    innerOf (F := Ideal) x a (ix2 r j) = ∑ k : Fin 7168, x (ix2 r k) * a (ix2 j k) := by
  unfold innerOf k0_pay12 k0_pay2
  rw [shapeCast_self, shapeCast_self, shapeCast_self, truncf_apply, dot_inner]
  exact transposed_apply x a r j

/-! ## The reads of the blocks -/

theorem ldT0 (u : Vec Ideal S256x64 .bf16) (r : Fin 256) (i : Fin 32) : View.ld (Val := Elt Ideal) u rT0 (ix2 r i) = u (ix2 r ⟨i.val, by omega⟩) := by
  refine congrArg u (Shape.idx_ext₂ ?_ ?_)
  · exact (congrArg (0 + ·) (Nat.one_mul r.val)).trans (Nat.zero_add r.val)
  · exact (congrArg (0 + ·) (Nat.one_mul i.val)).trans (Nat.zero_add i.val)

theorem ldT1 (u : Vec Ideal S256x64 .bf16) (r : Fin 256) (i : Fin 32) : View.ld (Val := Elt Ideal) u rT1 (ix2 r i) = u (ix2 r ⟨32 + i.val, by omega⟩) := by
  refine congrArg u (Shape.idx_ext₂ ?_ ?_)
  · exact (congrArg (0 + ·) (Nat.one_mul r.val)).trans (Nat.zero_add r.val)
  · exact congrArg (32 + ·) (Nat.one_mul i.val)

theorem ldS0 (u : Vec Ideal S2x512 .f32) (c : Fin 512) : View.ld (Val := Elt Ideal) u rS0 (ix2 0 c) = u (ix2 0 c) := by
  refine congrArg u (Shape.idx_ext₂ ?_ ?_)
  · rfl
  · exact (congrArg (0 + ·) (Nat.one_mul c.val)).trans (Nat.zero_add c.val)

theorem ldS1 (u : Vec Ideal S2x512 .f32) (c : Fin 512) : View.ld (Val := Elt Ideal) u rS1 (ix2 0 c) = u (ix2 1 c) := by
  refine congrArg u (Shape.idx_ext₂ ?_ ?_)
  · rfl
  · exact (congrArg (0 + ·) (Nat.one_mul c.val)).trans (Nat.zero_add c.val)

theorem ldW0 (u : Vec Ideal S2x7168x512 .fp8e4m3) (k : Fin 7168) (c : Fin 512) :
    shapeCast S7168x512 (View.ld (Val := Elt Ideal) u rW0) shapeCasts_S1x7168x512_S7168x512 (ix2 k c) = u (ix3 0 k c) := by
  rw [shapeCast_apply _ _ _ (ix3 0 k c) (by rw [Shape.rowMajor_val_two, Shape.rowMajor_val_three]; show (0 * 7168 + k.val) * 512 + c.val = k.val * 512 + c.val; omega)]
  refine congrArg u (funext fun a => Fin.ext ?_)
  match a with
  | ⟨0, _⟩ => rfl
  | ⟨1, _⟩ => exact (congrArg (0 + ·) (Nat.one_mul k.val)).trans (Nat.zero_add k.val)
  | ⟨2, _⟩ => exact (congrArg (0 + ·) (Nat.one_mul c.val)).trans (Nat.zero_add c.val)

theorem ldW1 (u : Vec Ideal S2x7168x512 .fp8e4m3) (k : Fin 7168) (c : Fin 512) :
    shapeCast S7168x512 (View.ld (Val := Elt Ideal) u rW1) shapeCasts_S1x7168x512_S7168x512 (ix2 k c) = u (ix3 1 k c) := by
  rw [shapeCast_apply _ _ _ (ix3 0 k c) (by rw [Shape.rowMajor_val_two, Shape.rowMajor_val_three]; show (0 * 7168 + k.val) * 512 + c.val = k.val * 512 + c.val; omega)]
  refine congrArg u (funext fun a => Fin.ext ?_)
  match a with
  | ⟨0, _⟩ => rfl
  | ⟨1, _⟩ => exact (congrArg (0 + ·) (Nat.one_mul k.val)).trans (Nat.zero_add k.val)
  | ⟨2, _⟩ => exact (congrArg (0 + ·) (Nat.one_mul c.val)).trans (Nat.zero_add c.val)

theorem ldB0 (u : Vec Ideal S2x32x512 .bf16) (k : Fin 32) (c : Fin 512) :
    shapeCast S32x512 (View.ld (Val := Elt Ideal) u rB0) shapeCasts_S1x32x512_S32x512 (ix2 k c) = u (ix3 0 k c) := by
  rw [shapeCast_apply _ _ _ (ix3 0 k c) (by rw [Shape.rowMajor_val_two, Shape.rowMajor_val_three]; show (0 * 32 + k.val) * 512 + c.val = k.val * 512 + c.val; omega)]
  refine congrArg u (funext fun a => Fin.ext ?_)
  match a with
  | ⟨0, _⟩ => rfl
  | ⟨1, _⟩ => exact (congrArg (0 + ·) (Nat.one_mul k.val)).trans (Nat.zero_add k.val)
  | ⟨2, _⟩ => exact (congrArg (0 + ·) (Nat.one_mul c.val)).trans (Nat.zero_add c.val)

theorem ldB1 (u : Vec Ideal S2x32x512 .bf16) (k : Fin 32) (c : Fin 512) :
    shapeCast S32x512 (View.ld (Val := Elt Ideal) u rB1) shapeCasts_S1x32x512_S32x512 (ix2 k c) = u (ix3 1 k c) := by
  rw [shapeCast_apply _ _ _ (ix3 0 k c) (by rw [Shape.rowMajor_val_two, Shape.rowMajor_val_three]; show (0 * 32 + k.val) * 512 + c.val = k.val * 512 + c.val; omega)]
  refine congrArg u (funext fun a => Fin.ext ?_)
  match a with
  | ⟨0, _⟩ => rfl
  | ⟨1, _⟩ => exact (congrArg (0 + ·) (Nat.one_mul k.val)).trans (Nat.zero_add k.val)
  | ⟨2, _⟩ => exact (congrArg (0 + ·) (Nat.one_mul c.val)).trans (Nat.zero_add c.val)

/-- The scales of 128 lanes, four times side by side. -/
theorem concat_apply (s : FVec Ideal S256x128 .f32) (r : Fin 256) (c : Fin 512) :
    concatenate S256x512 1 [⟨S256x128, s⟩, ⟨S256x128, s⟩, ⟨S256x128, s⟩, ⟨S256x128, s⟩] concatenates_S256x128_S256x128_S256x128_S256x128_S256x512_d1 (ix2 r c)
      = s (ix2 r ⟨c.val % 128, Nat.mod_lt _ (by decide)⟩) := by
  refine concatenate_replicate_apply (t := S256x512) (s₁ := S256x128) 1 4 s concatenates_S256x128_S256x128_S256x128_S256x128_S256x512_d1 rfl (ix2 r c)
    (ix2 r ⟨c.val % 128, Nat.mod_lt _ (by decide)⟩) rfl ?_
  intro b hb
  match b, hb with
  | ⟨0, _⟩, _ => rfl
  | ⟨1, _⟩, hb => exact absurd rfl hb

/-- A row of weight scales over all 256 rows. -/
theorem spread_apply (w : FVec Ideal S1x512 .f32) (r : Fin 256) (c : Fin 512) :
    broadcastTo S256x512 w broadcasts_S1x512_S256x512 (ix2 r c) = w (ix2 0 c) := by
  refine broadcastTo_apply _ _ _ _ ?_
  intro a
  match a with
  | ⟨0, _⟩ => rfl
  | ⟨1, _⟩ => rfl

/-! ## The point's values -/

/-- The gate half before the activation. -/
theorem pay13_apply (q : Vec Ideal S256x7168 .fp8e4m3) (w : Vec Ideal S1x7168x512 .fp8e4m3) (t : Vec Ideal S256x32 .bf16)
    (b : Vec Ideal S1x32x512 .bf16) (s : Vec Ideal S256x128 .f32) (ws : Vec Ideal S1x512 .f32) (r : Fin 256) (c : Fin 512) :
    k0_pay13 (F := Ideal) q w t b s ws (ix2 r c)
      = pre (fun k => q (ix2 r k)) (fun k => shapeCast S7168x512 w shapeCasts_S1x7168x512_S7168x512 (ix2 k c))
          (s (ix2 r ⟨c.val % 128, Nat.mod_lt _ (by decide)⟩)) (ws (ix2 0 c)) (fun i => t (ix2 r i))
          (fun i => shapeCast S32x512 b shapeCasts_S1x32x512_S32x512 (ix2 i c)) := by
  unfold k0_pay13
  rw [shapeCast_self]
  refine (scaled_apply _ _ _ _ _).trans ?_
  rw [concat_apply, spread_apply, dot_codes, dot_adapter]
  unfold pre
  exact congrArg₂ (fun A B => A * _ * _ + _ * B) (plain_apply q _ r c) (plain_apply t _ r c)

/-- The other half's quantised product. -/
theorem pay14_apply (q : Vec Ideal S256x7168 .fp8e4m3) (w : Vec Ideal S1x7168x512 .fp8e4m3) (r : Fin 256) (c : Fin 512) :
    k0_pay14 (F := Ideal) q w (ix2 r c)
      = ∑ k : Fin 7168, q (ix2 r k) * shapeCast S7168x512 w shapeCasts_S1x7168x512_S7168x512 (ix2 k c) := by
  unfold k0_pay14
  rw [shapeCast_self, dot_codes]
  exact plain_apply q _ r c

/-- The other half, the activation and the rounding. -/
theorem pay1_apply (g v : FVec Ideal S256x512 .f32) (t : Vec Ideal S256x32 .bf16)
    (b : Vec Ideal S1x32x512 .bf16) (s : Vec Ideal S256x128 .f32) (ws : Vec Ideal S1x512 .f32) (r : Fin 256) (c : Fin 512) :
    k0_pay1 (F := Ideal) g v t b s ws (ix2 r c)
      = glu (g (ix2 r c)) (v (ix2 r c) * s (ix2 r ⟨c.val % 128, Nat.mod_lt _ (by decide)⟩) * ws (ix2 0 c)
          + Ideal.ofBits .f32 0x40000000#32 * ∑ i : Fin 32, t (ix2 r i) * shapeCast S32x512 b shapeCasts_S1x32x512_S32x512 (ix2 i c)) := by
  unfold k0_pay1
  refine (gated_apply _ _ _ _).trans (congrArg (glu _) ((scaled_apply _ _ _ _ _).trans ?_))
  rw [concat_apply, spread_apply, dot_adapter]
  exact congrArg (fun B => _ * _ * _ + _ * B) (plain_apply t _ r c)

/-- **One block of the result**: entry `(r, c)` from row `r` of the codes, scales and inner products and column `c` of the weights. -/
theorem tileOf_apply (q : Vec Ideal S256x7168 .fp8e4m3) (s : Vec Ideal S256x128 .f32) (u : Vec Ideal S256x64 .bf16)
    (w : Vec Ideal S2x7168x512 .fp8e4m3) (ws : Vec Ideal S2x512 .f32) (b : Vec Ideal S2x32x512 .bf16) (r : Fin 256) (c : Fin 512) :
    tileOf (F := Ideal) q s u w ws b (ix2 r c)
      = glu (pre (fun k => q (ix2 r k)) (fun k => w (ix3 0 k c)) (s (ix2 r ⟨c.val % 128, Nat.mod_lt _ (by decide)⟩)) (ws (ix2 0 c))
              (fun i => u (ix2 r ⟨i.val, by omega⟩)) (fun i => b (ix3 0 i c)))
          (pre (fun k => q (ix2 r k)) (fun k => w (ix3 1 k c)) (s (ix2 r ⟨c.val % 128, Nat.mod_lt _ (by decide)⟩)) (ws (ix2 1 c))
              (fun i => u (ix2 r ⟨32 + i.val, by omega⟩)) (fun i => b (ix3 1 i c))) := by
  unfold tileOf
  refine (pay1_apply _ _ _ _ _ _ r c).trans ?_
  rw [pay13_apply, pay14_apply, ldS0, ldS1]
  have w0 := funext fun k => ldW0 w k c
  have b0 := funext fun i => ldB0 b i c
  have t0 := funext fun i => ldT0 u r i
  have w1 : ∑ k : Fin 7168, q (ix2 r k) * shapeCast S7168x512 (View.ld (Val := Elt Ideal) w rW1) shapeCasts_S1x7168x512_S7168x512 (ix2 k c)
      = ∑ k : Fin 7168, q (ix2 r k) * w (ix3 1 k c) := Finset.sum_congr rfl fun k _ => congrArg (q (ix2 r k) * ·) (ldW1 w k c)
  have b1 : ∑ i : Fin 32, View.ld (Val := Elt Ideal) u rT1 (ix2 r i) * shapeCast S32x512 (View.ld (Val := Elt Ideal) b rB1) shapeCasts_S1x32x512_S32x512 (ix2 i c)
      = ∑ i : Fin 32, u (ix2 r ⟨32 + i.val, by omega⟩) * b (ix3 1 i c) := Finset.sum_congr rfl fun i _ => congrArg₂ (· * ·) (ldT1 u r i) (ldB1 b i c)
  refine congrArg₂ glu ?_ ?_
  · exact congr (congrArg (fun W => pre _ W _ _) w0) t0 |> fun h => congr h b0
  · exact congrArg₂ (fun A B => A * _ * _ + _ * B) w1 b1

end Cert.KernelIdeal.Run

end
-- ==== Proof.KBlocks.lean ====
/- What the blocks that the kernel loads hold, in terms of the argument arrays. -/
module

public import proofs.«01_k».proof.Proof.KArrays
public import Idealize.ShloMosaic.Lib.ValueIdxCore

@[expose] public section

set_option maxRecDepth 16384

noncomputable section

namespace Cert.KernelIdeal.Run

open Cert.KernelIdeal.Gen
open Idealize.ShloMosaic Idealize.ShloMosaic.TcCoe Idealize.ShloMosaic.ValueIdx
open Idealize.ShloMosaic.Pipeline (Dat Window)

variable {F : FTy → Type} [FloatOps F]
variable (m : (ℓ : Loc nD τ sig) → Buf (Elt F) ℓ)

/-! ## The arrays that the host lines before the kernel write -/

/-- The weights with the two halves first. -/
theorem V_main_v0 (c : Dev nD) : V m c main_v0
    = transpose S2x7168x18432 [1, 0, 2] (m ((c : Thread nD τ).loc main_arg1) : Vec F S7168x2x18432 .fp8e4m3) transposes_S7168x2x18432_S2x7168x18432_1_0_2 := by
  show StableHlo.after hostOps0 (fun b => m (c, b)) (main_v0 : DevRef τ sig) = _
  after_results

/-- The adapter's first factor, transposed and stacked. -/
theorem V_main_v2 (c : Dev nD) : V m c main_v2
    = shapeCast S64x7168 (transpose S2x32x7168 [0, 2, 1] (m ((c : Thread nD τ).loc main_arg3) : Vec F S2x7168x32 .bf16) transposes_S2x7168x32_S2x32x7168_0_2_1) shapeCasts_S2x32x7168_S64x7168 := by
  show StableHlo.after hostOps0 (fun b => m (c, b)) (main_v2 : DevRef τ sig) = _
  after_results
  rfl

/-- The tokens without the leading unit axis. -/
theorem V_main_v3 (c : Dev nD) : V m c main_v3
    = shapeCast S256x7168 (m ((c : Thread nD τ).loc main_arg0) : Vec F S1x256x7168 .bf16) shapeCasts_S1x256x7168_S256x7168 := by
  show StableHlo.after hostOps0 (fun b => m (c, b)) (main_v3 : DevRef τ sig) = _
  after_results
  rfl

/-! ## The index maps of the three tiled inputs -/

theorem pt_val (t : Fin cfg0.N) : (BitVec.ofNat 32 (grid0.coords t 0).val).toNat = t.val := by
  have h : ∀ n < 36, (BitVec.ofNat 32 (n / 1 % 36)).toNat = n := by decide +kernel
  have hc : (grid0.coords t 0).val = t.val / 1 % 36 := Pipeline.Grid.coords_val t 0 (by decide) rfl
  rw [hc]
  exact h _ (lt_of_lt_of_eq t.isLt N_0)

theorem index1_2 (t : Fin cfg0.N) : win0_1.index t 2 = t.val := pt_val t
theorem index2_1 (t : Fin cfg0.N) : win0_2.index t 1 = t.val := pt_val t
theorem index4_2 (t : Fin cfg0.N) : win0_4.index t 2 = t.val := pt_val t

/-- Column `c` of the block of grid point `t`, in the whole array. -/
def col (t : Fin cfg0.N) (c : Fin 512) : Fin 18432 := ⟨t.val * 512 + c.val, by have := lt_of_lt_of_eq t.isLt N_0; omega⟩

theorem wBlk_apply (c : Dev nD) (t : Fin cfg0.N) (j : Fin 2) (k : Fin 7168) (n : Fin 512) :
    (iblk m c 1 t : Vec F S2x7168x512 .fp8e4m3) (ix3 j k n) = (m ((c : Thread nD τ).loc main_arg1) : Vec F S7168x2x18432 .fp8e4m3) (ix3 k j (col t n)) := by
  show V m c main_v0 ((win0_1.rect t).emb (ix3 j k n)) = _
  have e0 := Window.rect_emb_val win0_1 t (ix3 j k n) 0
  have e1 := Window.rect_emb_val win0_1 t (ix3 j k n) 1
  have e2 := Window.rect_emb_val win0_1 t (ix3 j k n) 2
  rw [index1_2] at e2
  rw [V_main_v0]
  refine transpose_apply _ _ _ _ _ ?_
  intro b
  match b with
  | ⟨0, _⟩ => exact (e0.trans ((congrArg (· + j.val) (Nat.zero_mul _)).trans (Nat.zero_add _))).symm
  | ⟨1, _⟩ => exact (e1.trans ((congrArg (· + k.val) (Nat.zero_mul _)).trans (Nat.zero_add _))).symm
  | ⟨2, _⟩ => exact e2.symm

theorem wsBlk_apply (c : Dev nD) (t : Fin cfg0.N) (j : Fin 2) (n : Fin 512) :
    (iblk m c 2 t : Vec F S2x512 .f32) (ix2 j n) = (m ((c : Thread nD τ).loc main_arg2) : Vec F S2x18432 .f32) (ix2 j (col t n)) := by
  show V m c main_arg2 ((win0_2.rect t).emb (ix2 j n)) = _
  have e0 := Window.rect_emb_val win0_2 t (ix2 j n) 0
  have e1 := Window.rect_emb_val win0_2 t (ix2 j n) 1
  rw [index2_1] at e1
  rw [V_main_arg2]
  refine congrArg _ (Shape.idx_ext₂ (e0.trans ((congrArg (· + j.val) (Nat.zero_mul _)).trans (Nat.zero_add _))) e1)

theorem bBlk_apply (c : Dev nD) (t : Fin cfg0.N) (j : Fin 2) (i : Fin 32) (n : Fin 512) :
    (iblk m c 4 t : Vec F S2x32x512 .bf16) (ix3 j i n) = (m ((c : Thread nD τ).loc main_arg4) : Vec F S2x32x18432 .bf16) (ix3 j i (col t n)) := by
  show V m c main_arg4 ((win0_4.rect t).emb (ix3 j i n)) = _
  have e0 := Window.rect_emb_val win0_4 t (ix3 j i n) 0
  have e1 := Window.rect_emb_val win0_4 t (ix3 j i n) 1
  have e2 := Window.rect_emb_val win0_4 t (ix3 j i n) 2
  rw [index4_2] at e2
  rw [V_main_arg4]
  refine congrArg _ (funext fun a => Fin.ext ?_)
  match a with
  | ⟨0, _⟩ => exact e0.trans ((congrArg (· + j.val) (Nat.zero_mul _)).trans (Nat.zero_add _))
  | ⟨1, _⟩ => exact e1.trans ((congrArg (· + i.val) (Nat.zero_mul _)).trans (Nat.zero_add _))
  | ⟨2, _⟩ => exact e2

theorem xOf_apply (c : Dev nD) (r : Fin 256) (k : Fin 7168) :
    xOf m c (ix2 r k) = (m ((c : Thread nD τ).loc main_arg0) : Vec F S1x256x7168 .bf16) (ix3 0 r k) := by
  show V m c main_v3 ((win0_0.rect t0).emb (ix2 r k)) = _
  have e0 := Window.rect_emb_val win0_0 t0 (ix2 r k) 0
  have e1 := Window.rect_emb_val win0_0 t0 (ix2 r k) 1
  have e : (win0_0.rect t0).emb (ix2 r k) = (ix2 r k : S256x7168.Idx) := Shape.idx_ext₂
    (e0.trans ((congrArg (· + r.val) (Nat.zero_mul _)).trans (Nat.zero_add _))) (e1.trans ((congrArg (· + k.val) (Nat.zero_mul _)).trans (Nat.zero_add _)))
  rw [V_main_v3]
  refine (congrArg _ e).trans (shapeCast_apply (s := S1x256x7168) _ _ _ (ix3 0 r k) ?_)
  rw [Shape.rowMajor_val_two, Shape.rowMajor_val_three]
  show (0 * 256 + r.val) * 7168 + k.val = r.val * 7168 + k.val
  omega

theorem aOf_apply (c : Dev nD) (j : Fin 2) (i : Fin 32) (k : Fin 7168) :
    aOf m c (ix2 ⟨j.val * 32 + i.val, by omega⟩ k) = (m ((c : Thread nD τ).loc main_arg3) : Vec F S2x7168x32 .bf16) (ix3 j k i) := by
  show V m c main_v2 ((win0_3.rect t0).emb (ix2 (⟨j.val * 32 + i.val, by omega⟩ : Fin 64) k)) = _
  have e0 := Window.rect_emb_val win0_3 t0 (ix2 (⟨j.val * 32 + i.val, by omega⟩ : Fin 64) k) 0
  have e1 := Window.rect_emb_val win0_3 t0 (ix2 (⟨j.val * 32 + i.val, by omega⟩ : Fin 64) k) 1
  have e : (win0_3.rect t0).emb (ix2 (⟨j.val * 32 + i.val, by omega⟩ : Fin 64) k) = (ix2 ⟨j.val * 32 + i.val, by omega⟩ k : S64x7168.Idx) := Shape.idx_ext₂
    (e0.trans ((congrArg (· + (j.val * 32 + i.val)) (Nat.zero_mul _)).trans (Nat.zero_add _))) (e1.trans ((congrArg (· + k.val) (Nat.zero_mul _)).trans (Nat.zero_add _)))
  rw [V_main_v2]
  refine (congrArg _ e).trans ((shapeCast_apply _ _ _ (ix3 j i k) ?_).trans (transpose_apply _ _ _ _ _ ?_))
  · rw [Shape.rowMajor_val_two, Shape.rowMajor_val_three]
    rfl
  · intro b
    match b with
    | ⟨0, _⟩ => rfl
    | ⟨1, _⟩ => rfl
    | ⟨2, _⟩ => rfl

end Cert.KernelIdeal.Run

end
-- ==== Proof.RRow.lean ====
/- What the reference computes of the activations, entry by entry, over the extended reals: each row's quantised values and its scale. -/
module

public import proofs.«01_k».proof.Proof.RArrays
public import proofs.«01_k».proof.Proof.Row
public import Idealize.ShloMosaic.PureOps.Ideal.Laws
public import Idealize.ShloMosaic.Lib.ValueIdxCore
public import Idealize.ShloMosaic.Lib.IdealHost
public import Idealize.ShloMosaic.Lib.Pipeline.Value
public import Idealize.ShloMosaic.Lib.Pointwise.ElementwiseCore

@[expose] public section

set_option maxRecDepth 16384

noncomputable section

namespace Cert.ReferenceIdeal.Run

open Cert.ReferenceIdeal.Gen Cert.Exponent
open Idealize.ShloMosaic Idealize.ShloMosaic.ValueIdx

/-- Row `r` of the tokens. -/
def row (x : Vec Ideal S1x256x7168 .bf16) (r : Fin 256) : Fin 7168 → EReal := fun k => x (ix3 0 r k)

/-- The tokens without the leading unit axis. -/
theorem tokens_apply (x : Vec Ideal S1x256x7168 .bf16) (r : Fin 256) (k : Fin 7168) :
    shapeCast S256x7168 x shapeCasts_S1x256x7168_S256x7168 (ix2 r k) = row x r k := by
  refine shapeCast_apply (s := S1x256x7168) _ _ _ (ix3 0 r k) ?_
  rw [Shape.rowMajor_val_two, Shape.rowMajor_val_three]
  show (0 * 256 + r.val) * 7168 + k.val = r.val * 7168 + k.val
  omega

theorem pay2_apply (x : Vec Ideal S1x256x7168 .bf16) (r : Fin 256) (k : Fin 7168) : k0_pay2 (F := Ideal) x (ix2 r k) = row x r k := by
  unfold k0_pay2
  rw [extf_apply]
  exact tokens_apply x r k

/-- A row's largest magnitude, as the reference reduces it. -/
theorem rowMax_apply (x : FVec Ideal S256x7168 .f32) (r : Fin 256) :
    shapeCast S256x1 (multiReduction (F := Ideal) (φ := .f32) .maximumf [1] S256 (absf (φ := .f32) x) 0xFF800000#32 reduces_S256x7168_S256 (.inl rfl) rfl) shapeCasts_S256_S256x1 (ix2 r 0)
      = rowMax (fun k => x (ix2 r k)) := by
  rw [shapeCast_apply _ _ _ (ix1 r) (by rw [Shape.rowMajor_val_one, Shape.rowMajor_val_two]; show r.val = r.val * 1 + 0; omega)]
  refine (Ideal.multiReduction_maximumf_single _ _ _ _ _ _).trans ?_
  unfold rowMax
  rw [Ideal.ofBits_def, bot_f32]
  congr 1
  funext k
  have e : reduces_S256x7168_S256.lift (ix1 r) k = ix2 r k := by
    funext a
    match a with
    | ⟨0, _⟩ => rfl
    | ⟨1, _⟩ => rfl
  show absf x (reduces_S256x7168_S256.lift (ix1 r) k) = _
  rw [e]
  rfl

/-- The exponent as the reference writes it, element by element. -/
theorem exponent_apply (u : FVec Ideal S256x1 .f32) (i : S256x1.Idx) :
    select (cmpf .oeq u (broadcast S256x1 (Scalar.ofBits (F := Ideal) .f32 0x00000000#32))) (broadcast S256x1 (Scalar.ofBits (F := Ideal) .f32 0x00000000#32))
      (addf (floor (divf (log (mulf u (broadcast S256x1 (Scalar.ofBits (F := Ideal) .f32 0x3B124925#32)))) (log (broadcast S256x1 (Scalar.ofBits (F := Ideal) .f32 0x40000000#32)))))
        (broadcast S256x1 (Scalar.ofBits (F := Ideal) .f32 0x3F800000#32))) i
      = rexp (u i) (u i * Ideal.ofBits .f32 0x3B124925#32) := by
  show Scalar.select (Ideal.cmp .oeq (u i) (Ideal.ofBits .f32 0x00000000#32)) (Ideal.ofBits .f32 0x00000000#32)
    (Ideal.liftRound Int.floor (Ideal.div (Ideal.log (u i * Ideal.ofBits .f32 0x3B124925#32)) (Ideal.log (Ideal.ofBits .f32 0x40000000#32))) + Ideal.ofBits .f32 0x3F800000#32) = _
  rw [Ideal.ofBits_zero_f32, Ideal.ofBits_one_f32]
  rfl

/-- A row's exponent. -/
theorem pay3_apply (x : Vec Ideal S1x256x7168 .bf16) (r : Fin 256) :
    k0_pay3 (F := Ideal) x (ix2 r 0) = rexp (rowMax (row x r)) (rowV (row x r)) := by
  have h := rowMax_apply (k0_pay2 (F := Ideal) x) r
  have e : (fun k => k0_pay2 (F := Ideal) x (ix2 r k)) = row x r := funext fun k => pay2_apply x r k
  rw [e] at h
  unfold k0_pay3
  refine (exponent_apply _ _).trans ?_
  unfold rowV
  rw [← h]

/-- A power of two, element by element. -/
theorem exp2_at (v : FVec Ideal S256x1 .f32) (i : S256x1.Idx) : exp2 v i = Ideal.exp2 (v i) := rfl

/-- A row's scale. -/
theorem pay4_apply (x : Vec Ideal S1x256x7168 .bf16) (r : Fin 256) :
    k0_pay4 (F := Ideal) x (ix2 r 0) = rscale (rowMax (row x r)) (rowV (row x r)) := by
  have h := pay3_apply x r
  unfold k0_pay4 rscale
  rw [exp2_at, h]

/-- The reciprocal of the scales, element by element. -/
theorem inv_apply (e : FVec Ideal S256x1 .f32) (i : S256x1.Idx) :
    exp2 (subf (broadcast S256x1 (Scalar.ofBits (F := Ideal) .f32 0x00000000#32)) e) i = Ideal.exp2 (0 - e i) := by
  show Ideal.exp2 (Ideal.ofBits .f32 0x00000000#32 - e i) = _
  rw [Ideal.ofBits_zero_f32]

/-- One value per row, over the row's columns. -/
theorem bcast_row (v : FVec Ideal S256x1 .f32) (r : Fin 256) (k : Fin 7168) :
    broadcastTo S256x7168 v broadcasts_S256x1_S256x7168 (ix2 r k) = v (ix2 r 0) := by
  refine broadcastTo_apply _ _ _ _ ?_
  intro a
  match a with
  | ⟨0, _⟩ => rfl
  | ⟨1, _⟩ => rfl

/-- The product with the reciprocal, clipped on both sides, at an index. -/
theorem clip_apply (x w : FVec Ideal S256x7168 .f32) (i : S256x7168.Idx) :
    (truncf .fp8e4m3 (minimumf (broadcast S256x7168 (Scalar.ofBits .f32 0x43E00000#32))
      (maximumf (broadcast S256x7168 (Scalar.ofBits .f32 0xC3E00000#32)) (mulf x w)))
      bitsLt_fp8e4m3_f32 : FVec Ideal S256x7168 .fp8e4m3) i = code (x i) (w i) := by
  rw [truncf_apply, minimumf_apply, maximumf_apply, mulf_apply, broadcast_apply, broadcast_apply]
  unfold code
  exact congrArg₂ min rfl (congrArg₂ max rfl rfl)

/-- The quantised values. -/
theorem pay5_apply (x : Vec Ideal S1x256x7168 .bf16) (r : Fin 256) (k : Fin 7168) :
    k0_pay5 (F := Ideal) x (ix2 r k) = code (row x r k) (rinv (rowMax (row x r)) (rowV (row x r))) := by
  unfold k0_pay5
  refine (clip_apply _ _ _).trans (congrArg₂ code (pay2_apply x r k) ((bcast_row _ r k).trans ((inv_apply _ _).trans ?_)))
  rw [pay3_apply]
  rfl

/-- The scale result, row by row. -/
theorem pay6_apply (x : Vec Ideal S1x256x7168 .bf16) (i : S1x256.Idx) :
    k0_pay6 (F := Ideal) x i = rscale (rowMax (row x (i 1))) (rowV (row x (i 1))) := by
  unfold k0_pay6
  rw [shapeCast_apply (s := S256x1) _ _ _ (ix2 (i 1) 0) (by
    rw [Shape.rowMajor_val_two, Shape.rowMajor_val_two]
    have h : (i 0).val = 0 := Nat.lt_one_iff.mp (i 0).isLt
    show (i 1).val * 1 + 0 = (i 0).val * 256 + (i 1).val
    omega)]
  exact pay4_apply x (i 1)

end Cert.ReferenceIdeal.Run

end
-- ==== Proof.RTile.lean ====
/- What the reference's first result holds, entry by entry, over the extended reals. -/
module

public import proofs.«01_k».proof.Proof.RRow
public import proofs.«01_k».proof.Proof.Products

@[expose] public section

set_option maxRecDepth 16384

noncomputable section

namespace Cert.ReferenceIdeal.Run

open Cert.ReferenceIdeal.Gen Cert.Exponent Cert.Layer
open Idealize.ShloMosaic Idealize.ShloMosaic.ValueIdx
open scoped BigOperators

/-! ## The three products' dimension numbers -/

theorem dot_codes : dot_S256x7168_S7168x18432_S256x18432_1_0_0_1_n_n = DotDims.plain 256 7168 18432 := rfl
theorem dot_inner : dot_S256x7168_S7168x32_S256x32_1_0_0_1_n_n = DotDims.plain 256 7168 32 := rfl
theorem dot_adapter : dot_S256x32_S32x18432_S256x18432_1_0_0_1_n_n = DotDims.plain 256 32 18432 := rfl

/-! ## The reads of the argument arrays -/

/-- A row of weight scales, cast to a vector and back, over all 256 rows. -/
theorem spread_apply (w : FVec Ideal S1x18432 .f32) (r : Fin 256) (c : Fin 18432) :
    broadcastTo S256x18432 (shapeCast S1x18432 (shapeCast S18432 w shapeCasts_S1x18432_S18432) shapeCasts_S18432_S1x18432) broadcasts_S1x18432_S256x18432 (ix2 r c)
      = w (ix2 0 c) := by
  refine (broadcastTo_apply _ _ _ (ix2 0 c) ?_).trans ?_
  · intro a
    match a with
    | ⟨0, _⟩ => rfl
    | ⟨1, _⟩ => rfl
  · rw [shapeCast_apply (s := S18432) _ _ _ (ix1 c) (by rw [Shape.rowMajor_val_one, Shape.rowMajor_val_two]; show c.val = 0 * 18432 + c.val; omega),
      shapeCast_apply (s := S1x18432) _ _ _ (ix2 0 c) (by rw [Shape.rowMajor_val_one, Shape.rowMajor_val_two]; show 0 * 18432 + c.val = c.val; omega)]

/-- One scale per row, over the row's columns. -/
theorem bcast_wide (v : FVec Ideal S256x1 .f32) (r : Fin 256) (c : Fin 18432) :
    broadcastTo S256x18432 v broadcasts_S256x1_S256x18432 (ix2 r c) = v (ix2 r 0) := by
  refine broadcastTo_apply _ _ _ _ ?_
  intro a
  match a with
  | ⟨0, _⟩ => rfl
  | ⟨1, _⟩ => rfl

theorem ldW0 (u : Vec Ideal S7168x2x18432 .fp8e4m3) (k : Fin 7168) (c : Fin 18432) :
    shapeCast S7168x18432 (View.ld (Val := Elt Ideal) u r0_3) shapeCasts_S7168x1x18432_S7168x18432 (ix2 k c) = u (ix3 k 0 c) := by
  rw [shapeCast_apply (s := S7168x1x18432) _ _ _ (ix3 k 0 c) (by rw [Shape.rowMajor_val_two, Shape.rowMajor_val_three]; show (k.val * 1 + 0) * 18432 + c.val = k.val * 18432 + c.val; omega)]
  refine congrArg u (funext fun a => Fin.ext ?_)
  match a with
  | ⟨0, _⟩ => exact (congrArg (0 + ·) (Nat.one_mul k.val)).trans (Nat.zero_add k.val)
  | ⟨1, _⟩ => exact rfl
  | ⟨2, _⟩ => exact (congrArg (0 + ·) (Nat.one_mul c.val)).trans (Nat.zero_add c.val)

theorem ldA0 (u : Vec Ideal S2x7168x32 .bf16) (k : Fin 7168) (c : Fin 32) :
    shapeCast S7168x32 (View.ld (Val := Elt Ideal) u r0_5) shapeCasts_S1x7168x32_S7168x32 (ix2 k c) = u (ix3 0 k c) := by
  rw [shapeCast_apply (s := S1x7168x32) _ _ _ (ix3 0 k c) (by rw [Shape.rowMajor_val_two, Shape.rowMajor_val_three]; show (0 * 7168 + k.val) * 32 + c.val = k.val * 32 + c.val; omega)]
  refine congrArg u (funext fun a => Fin.ext ?_)
  match a with
  | ⟨0, _⟩ => exact rfl
  | ⟨1, _⟩ => exact (congrArg (0 + ·) (Nat.one_mul k.val)).trans (Nat.zero_add k.val)
  | ⟨2, _⟩ => exact (congrArg (0 + ·) (Nat.one_mul c.val)).trans (Nat.zero_add c.val)

theorem ldB0 (u : Vec Ideal S2x32x18432 .bf16) (k : Fin 32) (c : Fin 18432) :
    shapeCast S32x18432 (View.ld (Val := Elt Ideal) u r0_6) shapeCasts_S1x32x18432_S32x18432 (ix2 k c) = u (ix3 0 k c) := by
  rw [shapeCast_apply (s := S1x32x18432) _ _ _ (ix3 0 k c) (by rw [Shape.rowMajor_val_two, Shape.rowMajor_val_three]; show (0 * 32 + k.val) * 18432 + c.val = k.val * 18432 + c.val; omega)]
  refine congrArg u (funext fun a => Fin.ext ?_)
  match a with
  | ⟨0, _⟩ => exact rfl
  | ⟨1, _⟩ => exact (congrArg (0 + ·) (Nat.one_mul k.val)).trans (Nat.zero_add k.val)
  | ⟨2, _⟩ => exact (congrArg (0 + ·) (Nat.one_mul c.val)).trans (Nat.zero_add c.val)

theorem ldS0 (u : Vec Ideal S2x18432 .f32) (r : Fin 256) (c : Fin 18432) :
    broadcastTo S256x18432 (shapeCast S1x18432 (shapeCast S18432 (View.ld (Val := Elt Ideal) u r0_4) shapeCasts_S1x18432_S18432) shapeCasts_S18432_S1x18432) broadcasts_S1x18432_S256x18432 (ix2 r c)
      = u (ix2 0 c) := by
  refine (spread_apply _ r c).trans (congrArg u (Shape.idx_ext₂ ?_ ?_))
  · exact rfl
  · exact (congrArg (0 + ·) (Nat.one_mul c.val)).trans (Nat.zero_add c.val)

theorem ldW1 (u : Vec Ideal S7168x2x18432 .fp8e4m3) (k : Fin 7168) (c : Fin 18432) :
    shapeCast S7168x18432 (View.ld (Val := Elt Ideal) u r0_7) shapeCasts_S7168x1x18432_S7168x18432 (ix2 k c) = u (ix3 k 1 c) := by
  rw [shapeCast_apply (s := S7168x1x18432) _ _ _ (ix3 k 0 c) (by rw [Shape.rowMajor_val_two, Shape.rowMajor_val_three]; show (k.val * 1 + 0) * 18432 + c.val = k.val * 18432 + c.val; omega)]
  refine congrArg u (funext fun a => Fin.ext ?_)
  match a with
  | ⟨0, _⟩ => exact (congrArg (0 + ·) (Nat.one_mul k.val)).trans (Nat.zero_add k.val)
  | ⟨1, _⟩ => exact rfl
  | ⟨2, _⟩ => exact (congrArg (0 + ·) (Nat.one_mul c.val)).trans (Nat.zero_add c.val)

theorem ldA1 (u : Vec Ideal S2x7168x32 .bf16) (k : Fin 7168) (c : Fin 32) :
    shapeCast S7168x32 (View.ld (Val := Elt Ideal) u r0_9) shapeCasts_S1x7168x32_S7168x32 (ix2 k c) = u (ix3 1 k c) := by
  rw [shapeCast_apply (s := S1x7168x32) _ _ _ (ix3 0 k c) (by rw [Shape.rowMajor_val_two, Shape.rowMajor_val_three]; show (0 * 7168 + k.val) * 32 + c.val = k.val * 32 + c.val; omega)]
  refine congrArg u (funext fun a => Fin.ext ?_)
  match a with
  | ⟨0, _⟩ => exact rfl
  | ⟨1, _⟩ => exact (congrArg (0 + ·) (Nat.one_mul k.val)).trans (Nat.zero_add k.val)
  | ⟨2, _⟩ => exact (congrArg (0 + ·) (Nat.one_mul c.val)).trans (Nat.zero_add c.val)

theorem ldB1 (u : Vec Ideal S2x32x18432 .bf16) (k : Fin 32) (c : Fin 18432) :
    shapeCast S32x18432 (View.ld (Val := Elt Ideal) u r0_10) shapeCasts_S1x32x18432_S32x18432 (ix2 k c) = u (ix3 1 k c) := by
  rw [shapeCast_apply (s := S1x32x18432) _ _ _ (ix3 0 k c) (by rw [Shape.rowMajor_val_two, Shape.rowMajor_val_three]; show (0 * 32 + k.val) * 18432 + c.val = k.val * 18432 + c.val; omega)]
  refine congrArg u (funext fun a => Fin.ext ?_)
  match a with
  | ⟨0, _⟩ => exact rfl
  | ⟨1, _⟩ => exact (congrArg (0 + ·) (Nat.one_mul k.val)).trans (Nat.zero_add k.val)
  | ⟨2, _⟩ => exact (congrArg (0 + ·) (Nat.one_mul c.val)).trans (Nat.zero_add c.val)

theorem ldS1 (u : Vec Ideal S2x18432 .f32) (r : Fin 256) (c : Fin 18432) :
    broadcastTo S256x18432 (shapeCast S1x18432 (shapeCast S18432 (View.ld (Val := Elt Ideal) u r0_8) shapeCasts_S1x18432_S18432) shapeCasts_S18432_S1x18432) broadcasts_S1x18432_S256x18432 (ix2 r c)
      = u (ix2 1 c) := by
  refine (spread_apply _ r c).trans (congrArg u (Shape.idx_ext₂ ?_ ?_))
  · exact rfl
  · exact (congrArg (0 + ·) (Nat.one_mul c.val)).trans (Nat.zero_add c.val)

/-! ## The two halves and the result -/

/-- The adapter's inner product of one half. -/
theorem inner_apply (x : Vec Ideal S1x256x7168 .bf16) (a : FVec Ideal S7168x32 .bf16) (r : Fin 256) (i : Fin 32) :
    (truncf .bf16 (matmul (F := Ideal) (φ₁ := .bf16) (φ₂ := .bf16) dot_S256x7168_S7168x32_S256x32_1_0_0_1_n_n none (shapeCast S256x7168 x shapeCasts_S1x256x7168_S256x7168) a (constant S256x32 .f32 0x00000000#32)) bitsLt_bf16_f32 : FVec Ideal S256x32 .bf16) (ix2 r i)
      = ∑ k : Fin 7168, row x r k * a (ix2 k i) := by
  rw [truncf_apply, dot_inner]
  refine (plain_apply (φ₁ := .bf16) (φ₂ := .bf16) (shapeCast S256x7168 x shapeCasts_S1x256x7168_S256x7168) a r i).trans ?_
  exact Finset.sum_congr rfl fun k _ => congrArg (· * a (ix2 k i)) (tokens_apply x r k)

/-- The gate half's quantised product times the row's scale. -/
theorem pay7_apply (x : Vec Ideal S1x256x7168 .bf16) (w : Vec Ideal S7168x1x18432 .fp8e4m3) (r : Fin 256) (c : Fin 18432) :
    k0_pay7 (F := Ideal) x w (ix2 r c)
      = (∑ k : Fin 7168, k0_pay5 (F := Ideal) x (ix2 r k) * shapeCast S7168x18432 w shapeCasts_S7168x1x18432_S7168x18432 (ix2 k c)) * k0_pay4 (F := Ideal) x (ix2 r 0) := by
  unfold k0_pay7
  generalize k0_pay5 (F := Ideal) x = q
  generalize k0_pay4 (F := Ideal) x = s
  rw [mulf_apply, bcast_wide, dot_codes]
  exact congrArg (· * s (ix2 r 0)) (plain_apply q _ r c)

/-- The gate half before the activation. -/
theorem pay8_apply (v : FVec Ideal S256x18432 .f32) (ws : Vec Ideal S1x18432 .f32) (x : Vec Ideal S1x256x7168 .bf16) (a : Vec Ideal S1x7168x32 .bf16)
    (b : Vec Ideal S1x32x18432 .bf16) (r : Fin 256) (c : Fin 18432) :
    k0_pay8 (F := Ideal) v ws x a b (ix2 r c)
      = v (ix2 r c) * ws (ix2 0 c) + Ideal.ofBits .f32 0x40000000#32 * ∑ i : Fin 32,
          (∑ k : Fin 7168, row x r k * shapeCast S7168x32 a shapeCasts_S1x7168x32_S7168x32 (ix2 k i)) * shapeCast S32x18432 b shapeCasts_S1x32x18432_S32x18432 (ix2 i c) := by
  unfold k0_pay8
  rw [addf_apply, mulf_apply, mulf_apply, broadcast_apply, spread_apply, dot_adapter]
  refine congrArg (fun B => v (ix2 r c) * ws (ix2 0 c) + Ideal.ofBits .f32 0x40000000#32 * B) ((plain_apply _ _ r c).trans ?_)
  exact Finset.sum_congr rfl fun i _ => congrArg (· * shapeCast S32x18432 b shapeCasts_S1x32x18432_S32x18432 (ix2 i c)) (inner_apply x _ r i)

/-- The other half's quantised product times both scales. -/
theorem pay9_apply (s : FVec Ideal S256x1 .f32) (q : FVec Ideal S256x7168 .fp8e4m3) (w : Vec Ideal S7168x1x18432 .fp8e4m3) (ws : Vec Ideal S1x18432 .f32)
    (r : Fin 256) (c : Fin 18432) :
    k0_pay9 (F := Ideal) s q w ws (ix2 r c)
      = (∑ k : Fin 7168, q (ix2 r k) * shapeCast S7168x18432 w shapeCasts_S7168x1x18432_S7168x18432 (ix2 k c)) * s (ix2 r 0) * ws (ix2 0 c) := by
  unfold k0_pay9
  rw [mulf_apply, mulf_apply, bcast_wide, spread_apply, dot_codes]
  exact congrArg (· * s (ix2 r 0) * ws (ix2 0 c)) (plain_apply q _ r c)

/-- The other half's inner product. -/
theorem pay10_apply (x : Vec Ideal S1x256x7168 .bf16) (a : Vec Ideal S1x7168x32 .bf16) (r : Fin 256) (i : Fin 32) :
    k0_pay10 (F := Ideal) x a (ix2 r i) = ∑ k : Fin 7168, row x r k * shapeCast S7168x32 a shapeCasts_S1x7168x32_S7168x32 (ix2 k i) := by
  unfold k0_pay10
  exact inner_apply x _ r i

/-- The other half, the activation and the rounding. -/
theorem pay1_apply (g v : FVec Ideal S256x18432 .f32) (t : FVec Ideal S256x32 .bf16) (b : Vec Ideal S1x32x18432 .bf16) (r : Fin 256) (c : Fin 18432) :
    k0_pay1 (F := Ideal) g v t b (ix2 r c)
      = glu (g (ix2 r c)) (v (ix2 r c) + Ideal.ofBits .f32 0x40000000#32 * ∑ i : Fin 32, t (ix2 r i) * shapeCast S32x18432 b shapeCasts_S1x32x18432_S32x18432 (ix2 i c)) := by
  unfold k0_pay1
  refine (gated_apply _ _ _ _).trans (congrArg (glu _) ?_)
  rw [addf_apply, mulf_apply, broadcast_apply, dot_adapter]
  exact congrArg (fun B => v (ix2 r c) + Ideal.ofBits .f32 0x40000000#32 * B) (plain_apply t _ r c)

/-- One half of the reference at row `r` and column `c`: `j` is the half. -/
def half (x : Vec Ideal S1x256x7168 .bf16) (w : Vec Ideal S7168x2x18432 .fp8e4m3) (ws : Vec Ideal S2x18432 .f32) (a : Vec Ideal S2x7168x32 .bf16)
    (b : Vec Ideal S2x32x18432 .bf16) (j : Fin 2) (r : Fin 256) (c : Fin 18432) : EReal :=
  pre (fun k => k0_pay5 (F := Ideal) x (ix2 r k)) (fun k => w (ix3 k j c)) (k0_pay4 (F := Ideal) x (ix2 r 0)) (ws (ix2 j c))
    (fun i => ∑ k : Fin 7168, row x r k * a (ix3 j k i)) (fun i => b (ix3 j i c))

theorem gate_apply (x : Vec Ideal S1x256x7168 .bf16) (w : Vec Ideal S7168x2x18432 .fp8e4m3) (ws : Vec Ideal S2x18432 .f32) (a : Vec Ideal S2x7168x32 .bf16)
    (b : Vec Ideal S2x32x18432 .bf16) (r : Fin 256) (c : Fin 18432) :
    k0_pay8 (F := Ideal) (k0_pay7 x (View.ld w r0_3)) (View.ld ws r0_4) x (View.ld a r0_5) (View.ld b r0_6) (ix2 r c) = half x w ws a b 0 r c := by
  rw [pay8_apply, pay7_apply]
  unfold half pre
  generalize k0_pay5 (F := Ideal) x = q
  generalize k0_pay4 (F := Ideal) x = s
  refine congrArg₂ (· + ·) (congrArg₂ (· * ·) (congrArg (· * s (ix2 r 0)) ?_) ?_) (congrArg (Ideal.ofBits .f32 0x40000000#32 * ·) ?_)
  · exact Finset.sum_congr rfl fun k _ => congrArg (q (ix2 r k) * ·) (ldW0 w k c)
  · exact (spread_apply _ r c).symm.trans (ldS0 ws r c)
  · exact Finset.sum_congr rfl fun i _ => congrArg₂ (· * ·) (Finset.sum_congr rfl fun k _ => congrArg (row x r k * ·) (ldA0 a k i)) (ldB0 b i c)

theorem other_apply (x : Vec Ideal S1x256x7168 .bf16) (w : Vec Ideal S7168x2x18432 .fp8e4m3) (ws : Vec Ideal S2x18432 .f32) (a : Vec Ideal S2x7168x32 .bf16)
    (b : Vec Ideal S2x32x18432 .bf16) (r : Fin 256) (c : Fin 18432) :
    k0_pay9 (F := Ideal) (k0_pay4 x) (k0_pay5 x) (View.ld w r0_7) (View.ld ws r0_8) (ix2 r c)
      + Ideal.ofBits .f32 0x40000000#32 * ∑ i : Fin 32, k0_pay10 (F := Ideal) x (View.ld a r0_9) (ix2 r i) * shapeCast S32x18432 (View.ld b r0_10) shapeCasts_S1x32x18432_S32x18432 (ix2 i c)
      = half x w ws a b 1 r c := by
  rw [pay9_apply]
  unfold half pre
  generalize k0_pay5 (F := Ideal) x = q
  generalize k0_pay4 (F := Ideal) x = s
  refine congrArg₂ (· + ·) (congrArg₂ (· * ·) (congrArg (· * s (ix2 r 0)) ?_) ?_) (congrArg (Ideal.ofBits .f32 0x40000000#32 * ·) ?_)
  · exact Finset.sum_congr rfl fun k _ => congrArg (q (ix2 r k) * ·) (ldW1 w k c)
  · exact (spread_apply _ r c).symm.trans (ldS1 ws r c)
  · exact Finset.sum_congr rfl fun i _ => congrArg₂ (· * ·)
      ((pay10_apply x _ r i).trans (Finset.sum_congr rfl fun k _ => congrArg (row x r k * ·) (ldA1 a k i))) (ldB1 b i c)

/-- **The reference's first result** at row `r` and column `c`. -/
theorem refY_apply (x : Vec Ideal S1x256x7168 .bf16) (w : Vec Ideal S7168x2x18432 .fp8e4m3) (ws : Vec Ideal S2x18432 .f32) (a : Vec Ideal S2x7168x32 .bf16)
    (b : Vec Ideal S2x32x18432 .bf16) (r : Fin 256) (c : Fin 18432) :
    refY (F := Ideal) x w ws a b (ix2 r c) = glu (half x w ws a b 0 r c) (half x w ws a b 1 r c) := by
  unfold refY
  exact (pay1_apply _ _ _ _ r c).trans (congrArg₂ glu (gate_apply x w ws a b r c) (other_apply x w ws a b r c))

end Cert.ReferenceIdeal.Run

end
-- ==== Proof.Range.lean ====
/- What the precondition says of a row: it is zero, or its largest magnitude times 1/448 is a real in the range where the two exponents agree. -/
module

public import proofs.«01_k».proof.Proof.Row
public import proofs.«01_k».proof.Proof.Gen.Pre_rows_in_range
public import Idealize.ShloMosaic.Lib.ValueIdxCore
public import Idealize.ShloMosaic.Lib.IdealHost

@[expose] public section

set_option maxRecDepth 16384

noncomputable section

namespace Cert.Range

open Cert.Exponent Cert.Pre_rows_in_range
open Idealize.ShloMosaic Idealize.ShloMosaic.ValueIdx

theorem third_f32 : Ideal.ofBits .f32 0x3B124925#32 = ((9586981 * (2 : ℝ) ^ (-32 : ℤ) : ℝ) : EReal) := by
  simp [Ideal.ofBits, Ideal.ieee, -EReal.coe_mul]
theorem least_f32 : Ideal.ofBits .f32 0x00800000#32 = (((2 : ℝ) ^ (-126 : ℤ) : ℝ) : EReal) := by
  simp [Ideal.ofBits, Ideal.ieee, -EReal.coe_mul]; norm_num
theorem most_f32 : Ideal.ofBits .f32 0x7F7F0000#32 = ((255 * (2 : ℝ) ^ (120 : ℤ) : ℝ) : EReal) := by
  simp [Ideal.ofBits, Ideal.ieee, -EReal.coe_mul]; norm_num

/-- The printed test of one row holds exactly where the row is zero or in the range. -/
theorem of_test (p q r : Prop) [Decidable p] [Decidable q] [Decidable r] (hp : ¬p)
    (h : BitVec.ofBool (decide p) ||| (BitVec.ofBool (decide q) &&& BitVec.ofBool (decide r)) = 1#1) : q ∧ r := by
  by_cases hq : q
  · by_cases hr : r
    · exact ⟨hq, hr⟩
    · rw [decide_eq_false hp, decide_eq_true hq, decide_eq_false hr] at h
      exact absurd h (by decide)
  · rw [decide_eq_false hp, decide_eq_false hq] at h
    cases hr : decide r <;> rw [hr] at h <;> exact absurd h (by decide)

/-- A value between the two bounds is a real in the range where the two exponents agree. -/
theorem of_bounds (a : EReal) (hlo : (((2 : ℝ) ^ (-126 : ℤ) : ℝ) : EReal) ≤ a * ((9586981 * (2 : ℝ) ^ (-32 : ℤ) : ℝ) : EReal))
    (hhi : a ≤ ((255 * (2 : ℝ) ^ (120 : ℤ) : ℝ) : EReal)) :
    ∃ r : ℝ, a * ((9586981 * (2 : ℝ) ^ (-32 : ℤ) : ℝ) : EReal) = r ∧ (2 : ℝ) ^ (-126 : ℤ) ≤ r ∧ r < (2 : ℝ) ^ (126 : ℤ) := by
  have hc : (0 : ℝ) < 9586981 * (2 : ℝ) ^ (-32 : ℤ) := by positivity
  have hb : 255 * (2 : ℝ) ^ (120 : ℤ) * (9586981 * (2 : ℝ) ^ (-32 : ℤ)) < (2 : ℝ) ^ (126 : ℤ) := by norm_num
  generalize 9586981 * (2 : ℝ) ^ (-32 : ℤ) = k at *
  generalize (2 : ℝ) ^ (-126 : ℤ) = l at *
  generalize 255 * (2 : ℝ) ^ (120 : ℤ) = u at *
  generalize (2 : ℝ) ^ (126 : ℤ) = w at *
  induction a using EReal.rec with
  | bot =>
    rw [EReal.bot_mul_coe_of_pos hc] at hlo
    exact absurd (le_bot_iff.mp hlo) (EReal.coe_ne_bot _)
  | top => exact absurd (top_le_iff.mp hhi) (EReal.coe_ne_top _)
  | coe x =>
    rw [← EReal.coe_mul] at hlo ⊢
    rw [EReal.coe_le_coe_iff] at hlo hhi
    exact ⟨_, rfl, hlo, lt_of_le_of_lt (mul_le_mul_of_nonneg_right hhi hc.le) hb⟩

/-- The condition on one row's largest magnitude, read over the extended reals. -/
theorem of_bits (a : EReal)
    (h : IntOp.ori (Ideal.cmp .oeq a (Ideal.ofBits .f32 0x00000000#32))
      (IntOp.andi (Ideal.cmp .oge (a * Ideal.ofBits .f32 0x3B124925#32) (Ideal.ofBits .f32 0x00800000#32)) (Ideal.cmp .ole a (Ideal.ofBits .f32 0x7F7F0000#32))) = 1#1) :
    (a = 0 ∧ a * Ideal.ofBits .f32 0x3B124925#32 = 0)
      ∨ (a ≠ 0 ∧ ∃ r : ℝ, a * Ideal.ofBits .f32 0x3B124925#32 = r ∧ (2 : ℝ) ^ (-126 : ℤ) ≤ r ∧ r < (2 : ℝ) ^ (126 : ℤ)) := by
  by_cases ha : a = 0
  · exact Or.inl ⟨ha, by rw [ha, zero_mul]⟩
  refine Or.inr ⟨ha, ?_⟩
  have t := of_test (a = Ideal.ofBits .f32 0x00000000#32) (Ideal.ofBits .f32 0x00800000#32 ≤ a * Ideal.ofBits .f32 0x3B124925#32)
    (a ≤ Ideal.ofBits .f32 0x7F7F0000#32) (by rw [Ideal.ofBits_zero_f32]; exact ha) h
  rw [third_f32, least_f32, most_f32] at t
  rw [third_f32]
  exact of_bounds a t.1 t.2

theorem reduces_last : S1x256x7168.Reduces [2] S1x256 := by decide

/-- A row's largest magnitude, as the precondition reduces it. -/
theorem rowMax_apply (x : FVec Ideal S1x256x7168 .bf16) (r : Fin 256) :
    Host.reduce (FloatOps.maximumf (F := Ideal) (φ := .f32)) (Host.absf (extf .f32 x Facts.bitsLt_bf16_f32)) (constant S_ .f32 0xFF800000#32)
      Facts.reducesTo_S1x256x7168_S1x256_d2 Facts.h_S_ (ix2 0 r) = rowMax (fun k => x (ix3 0 r k)) := by
  refine (Host.reduce_eq_fold_single (max : EReal → EReal → EReal) _ _ _ reduces_last _ _).trans ?_
  unfold rowMax
  rw [show (constant (F := Ideal) S_ .f32 0xFF800000#32 (Shape.Idx.first Facts.h_S_)) = (⊥ : EReal) from bot_f32]
  congr 1
  funext k
  have e : reduces_last.lift (ix2 0 r) k = ix3 0 r k := by
    funext a
    match a with
    | ⟨0, _⟩ => rfl
    | ⟨1, _⟩ => rfl
    | ⟨2, _⟩ => rfl
  show Host.absf (extf .f32 x Facts.bitsLt_bf16_f32) (reduces_last.lift (ix2 0 r) k) = _
  rw [e]
  rfl

/-- What the precondition says of row `r`. -/
theorem row_in_range (x : FVec Ideal S1x256x7168 .bf16) (w : FVec Ideal S7168x2x18432 .fp8e4m3) (ws : FVec Ideal S2x18432 .f32)
    (a : FVec Ideal S2x7168x32 .bf16) (b : FVec Ideal S2x32x18432 .bf16) (h : fn (F := Ideal) x w ws a b = fun _ => 1#1) (r : Fin 256) :
    (rowMax (fun k => x (ix3 0 r k)) = 0 ∧ rowV (fun k => x (ix3 0 r k)) = 0)
      ∨ (rowMax (fun k => x (ix3 0 r k)) ≠ 0 ∧ ∃ v : ℝ, rowV (fun k => x (ix3 0 r k)) = v ∧ (2 : ℝ) ^ (-126 : ℤ) ≤ v ∧ v < (2 : ℝ) ^ (126 : ℤ)) := by
  have h' := congrFun h (ix2 0 r)
  have e := rowMax_apply x r
  unfold fn at h'
  unfold rowV
  dsimp only at h'
  generalize Host.reduce (FloatOps.maximumf (F := Ideal) (φ := .f32)) (Host.absf (extf .f32 x Facts.bitsLt_bf16_f32)) (constant S_ .f32 0xFF800000#32)
      Facts.reducesTo_S1x256x7168_S1x256_d2 Facts.h_S_ = v at h' e
  rw [← e]
  exact of_bits _ h'

end Cert.Range

end
-- ==== Proof.Equation.lean ====
/- The kernel's three results equal the reference's, over the extended reals, where the precondition holds. -/
module

public import proofs.«01_k».proof.Proof.KTile
public import proofs.«01_k».proof.Proof.KBlocks
public import proofs.«01_k».proof.Proof.RTile
public import proofs.«01_k».proof.Proof.Range

@[expose] public section

set_option maxRecDepth 16384

noncomputable section

namespace Cert.Equation

open Cert.KernelIdeal Cert.KernelIdeal.Gen Cert.Exponent Cert.Layer
open Idealize.ShloMosaic Idealize.ShloMosaic.TcCoe Idealize.ShloMosaic.ValueIdx
open scoped BigOperators

variable (m : (ℓ : Loc nD τ sig) → Buf (Elt Ideal) ℓ) (c : Dev nD)

/-- The five argument arrays. -/
abbrev argX : Vec Ideal S1x256x7168 .bf16 := m ((c : Thread nD τ).loc main_arg0)
abbrev argW : Vec Ideal S7168x2x18432 .fp8e4m3 := m ((c : Thread nD τ).loc main_arg1)
abbrev argS : Vec Ideal S2x18432 .f32 := m ((c : Thread nD τ).loc main_arg2)
abbrev argA : Vec Ideal S2x7168x32 .bf16 := m ((c : Thread nD τ).loc main_arg3)
abbrev argB : Vec Ideal S2x32x18432 .bf16 := m ((c : Thread nD τ).loc main_arg4)

/-- The precondition on one device's arguments. -/
def InRange : Prop := Cert.Pre_rows_in_range.fn (F := Ideal) (argX m c) (argW m c) (argS m c) (argA m c) (argB m c) = fun _ => 1#1

variable {m c}

/-- The kernel's row of tokens is the argument's. -/
theorem row_eq (r : Fin 256) : Run.row (Run.xOf m c) r = Cert.ReferenceIdeal.Run.row (argX m c) r := funext fun k => Run.xOf_apply m c r k

theorem scales (h : InRange m c) (r : Fin 256) :
    kscale (rowV (Cert.ReferenceIdeal.Run.row (argX m c) r)) = rscale (rowMax (Cert.ReferenceIdeal.Run.row (argX m c) r)) (rowV (Cert.ReferenceIdeal.Run.row (argX m c) r))
    ∧ kinv (rowV (Cert.ReferenceIdeal.Run.row (argX m c) r)) = rinv (rowMax (Cert.ReferenceIdeal.Run.row (argX m c) r)) (rowV (Cert.ReferenceIdeal.Run.row (argX m c) r)) :=
  scale_inv _ _ (Cert.Range.row_in_range _ _ _ _ _ h r)

/-- Every code. -/
theorem codes_at (h : InRange m c) (r : Fin 256) (k : Fin 7168) :
    Run.codesOf (F := Ideal) (Run.xOf m c) (ix2 r k) = Cert.ReferenceIdeal.Gen.k0_pay5 (F := Ideal) (argX m c) (ix2 r k) := by
  rw [Run.codesOf_apply, Cert.ReferenceIdeal.Run.pay5_apply, row_eq, (scales h r).2, Run.xOf_apply]
  rfl

/-- Every row's scale. -/
theorem scale_at (h : InRange m c) (r : Fin 256) :
    kscale (rowV (Run.row (Run.xOf m c) r)) = Cert.ReferenceIdeal.Gen.k0_pay4 (F := Ideal) (argX m c) (ix2 r 0) := by
  rw [Cert.ReferenceIdeal.Run.pay4_apply, row_eq, (scales h r).1]

/-- **The second result**: the codes. -/
theorem codes_eq (h : InRange m c) : Run.codesOf (F := Ideal) (Run.xOf m c) = Cert.ReferenceIdeal.Gen.k0_pay5 (F := Ideal) (argX m c) := by
  funext i
  rw [eq_ix2 i]
  exact codes_at h (i 0) (i 1)

/-- **The third result**: the scales. -/
theorem scale_eq (h : InRange m c) : Run.scaleOf (F := Ideal) (Run.xOf m c) = Cert.ReferenceIdeal.Gen.k0_pay6 (F := Ideal) (argX m c) := by
  funext i
  rw [Run.scaleOf_apply, Cert.ReferenceIdeal.Run.pay6_apply]
  exact (scale_at h (i 1)).trans (Cert.ReferenceIdeal.Run.pay4_apply _ _)

/-- The inner products of half `j`. -/
theorem inner_at (j : Fin 2) (r : Fin 256) (i : Fin 32) :
    Run.innerOf (F := Ideal) (Run.xOf m c) (Run.aOf m c) (ix2 r ⟨j.val * 32 + i.val, by omega⟩)
      = ∑ k : Fin 7168, Cert.ReferenceIdeal.Run.row (argX m c) r k * argA m c (ix3 j k i) :=
  (Run.innerOf_apply _ _ _ _).trans (Finset.sum_congr rfl fun k _ => congrArg₂ (· * ·) (Run.xOf_apply m c r k) (Run.aOf_apply m c j i k))

/-- One half, at row `r` and column `n` of block `t`. -/
theorem half_at (h : InRange m c) (t : Fin cfg0.N) (j : Fin 2) (r : Fin 256) (n : Fin 512) (f : Fin 32 → Fin 64) (hf : ∀ i, (f i).val = j.val * 32 + i.val) :
    pre (fun k => Run.codesOf (F := Ideal) (Run.xOf m c) (ix2 r k)) (fun k => (iblk m c 1 t : Vec Ideal S2x7168x512 .fp8e4m3) (ix3 j k n))
        (Run.wideOf (F := Ideal) (Run.xOf m c) (ix2 r ⟨n.val % 128, Nat.mod_lt _ (by decide)⟩)) ((iblk m c 2 t : Vec Ideal S2x512 .f32) (ix2 j n))
        (fun i => Run.innerOf (F := Ideal) (Run.xOf m c) (Run.aOf m c) (ix2 r (f i))) (fun i => (iblk m c 4 t : Vec Ideal S2x32x512 .bf16) (ix3 j i n))
      = Cert.ReferenceIdeal.Run.half (argX m c) (argW m c) (argS m c) (argA m c) (argB m c) j r (Run.col t n) := by
  have hs := (Run.wideOf_apply (Run.xOf m c) r ⟨n.val % 128, Nat.mod_lt _ (by decide)⟩).trans (scale_at h r)
  have hq := funext fun k => codes_at h r k
  have hw := funext fun k => Run.wBlk_apply m c t j k n
  have hb := funext fun i => Run.bBlk_apply m c t j i n
  have ht : (fun i => Run.innerOf (F := Ideal) (Run.xOf m c) (Run.aOf m c) (ix2 r (f i)))
      = fun i => ∑ k : Fin 7168, Cert.ReferenceIdeal.Run.row (argX m c) r k * argA m c (ix3 j k i) := funext fun i => by
    rw [show f i = ⟨j.val * 32 + i.val, by omega⟩ from Fin.ext (hf i)]
    exact inner_at j r i
  unfold Cert.ReferenceIdeal.Run.half
  rw [hs, Run.wsBlk_apply]
  exact congr (congr (congrFun (congrFun (congr (congrArg pre hq) hw) _) _) ht) hb

/-- **The first result**: the layer's output. -/
theorem y_eq (h : InRange m c) : Run.yArr m c = Cert.ReferenceIdeal.Run.refY (F := Ideal) (argX m c) (argW m c) (argS m c) (argA m c) (argB m c) := by
  funext i
  obtain ⟨r, n, rfl⟩ : ∃ (r : Fin 256) (n : Fin 18432), i = ix2 r n := ⟨i 0, i 1, eq_ix2 i⟩
  have hcol : Run.col (Run.colPt n.val n.isLt) ⟨n.val % 512, Nat.mod_lt _ (by decide)⟩ = n := by
    apply Fin.ext
    show n.val / 512 * 512 + n.val % 512 = n.val
    omega
  have hy : Run.yArr m c (ix2 r n) = Run.yOf m c (Run.colPt n.val n.isLt) (ix2 r ⟨n.val % 512, Nat.mod_lt _ (by decide)⟩) := by
    unfold Run.yArr
    refine congrArg (Run.yOf m c (Run.colPt n.val n.isLt)) (funext fun a => ?_)
    match a with
    | ⟨0, _⟩ => rfl
    | ⟨1, _⟩ => rfl
  rw [hy, Cert.ReferenceIdeal.Run.refY_apply]
  unfold Run.yOf
  refine (Run.tileOf_apply _ _ _ _ _ _ _ _).trans (congrArg₂ glu ?_ ?_)
  · refine (half_at h _ 0 r _ _ fun i => ?_).trans (congrArg _ hcol)
    show i.val = 0 * 32 + i.val
    omega
  · refine (half_at h _ 1 r _ _ fun i => ?_).trans (congrArg _ hcol)
    show 32 + i.val = 1 * 32 + i.val
    omega

end Cert.Equation

end
-- ==== Proof.lean ====
module

public import proofs.«01_k».proof.Defs
public import proofs.«01_k».proof.Proof.Gen.Pre_rows_in_range
public import proofs.«01_k».proof.Proof.Bridge
public import proofs.«01_k».proof.Proof.KArrays
public import proofs.«01_k».proof.Proof.RArrays
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem

/-- The three results agree: both runs end at the kernel's arrays, the reference's by the three equations. -/
theorem algebraic : Cert.algebraic_KernelIdeal_ReferenceIdeal_pre_rows_in_range := by
  intro m g m' g' hpre hargs
  refine ⟨fun c => Cert.KernelIdeal.Run.yArr m c, fun c => Cert.KernelIdeal.Run.codesOf (F := Ideal) (Cert.KernelIdeal.Run.xOf m c),
    fun c => Cert.KernelIdeal.Run.scaleOf (F := Ideal) (Cert.KernelIdeal.Run.xOf m c), Cert.KernelIdeal.Run.run_values (F := Ideal) m g, ?_⟩
  refine (θ_run Cert.ReferenceIdeal.defs _ _).mono (fun r h c => ?_) (Cert.ReferenceIdeal.Run.run_values (F := Ideal) m' g')
  obtain ⟨h0, h1, h2, hrest⟩ := h c
  obtain ⟨a0, a1, a2, a3, a4⟩ := hargs c
  have hc := hpre c
  refine ⟨h0.trans ?_, h1.trans ?_, h2.trans ?_, hrest⟩
  · refine Eq.trans ?_ (Cert.Equation.y_eq (m := m) (c := c) hc).symm
    exact congr (congr (congr (congr (congrArg (Cert.ReferenceIdeal.Run.refY (F := Ideal)) a0) a1) a2) a3) a4
  · exact (congrArg (Cert.ReferenceIdeal.Gen.k0_pay5 (F := Ideal)) a0).trans (Cert.Equation.codes_eq (m := m) (c := c) hc).symm
  · exact (congrArg (Cert.ReferenceIdeal.Gen.k0_pay6 (F := Ideal)) a0).trans (Cert.Equation.scale_eq (m := m) (c := c) hc).symm

theorem claim : Cert.Claim := ⟨Cert.Kernel.Gen.facts, Cert.KernelIdeal.Gen.facts, Cert.ReferenceIdeal.Gen.facts, Cert.Pre_rows_in_range.Gen.facts,
  Cert.Bridge.frame,
  fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ,
  trivial, algebraic⟩

end Cert.Proof

end
